-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_finite_time [hPre_finite_time : Cert.Pre_finite_time.Facts] (m : (ℓ : Loc Cert.KernelIdeal.nD Cert.KernelIdeal.τ Cert.KernelIdeal.sig) → Buf (Elt Ideal) ℓ) : Prop :=
  ∀ c : Dev Cert.KernelIdeal.nD,
    (Cert.Pre_finite_time.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_time [hPre_finite_time : Cert.Pre_finite_time.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_time.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_time [hKernelIdeal : Cert.KernelIdeal.Facts] [hPre_finite_time : Cert.Pre_finite_time.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_time m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_time [hReferenceIdeal : Cert.ReferenceIdeal.Facts] [hPre_finite_time : Cert.Pre_finite_time.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_time m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_time [hKernelIdeal : Cert.KernelIdeal.Facts] [hReferenceIdeal : Cert.ReferenceIdeal.Facts] [hPre_finite_time : Cert.Pre_finite_time.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_time m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_time : Cert.Pre_finite_time.Facts),
    quiescent_Kernel (hKernel := hKernel) (hPre_in_range := hPre_in_range)
    ∧ quiescent_KernelIdeal (hKernelIdeal := hKernelIdeal) (hPre_in_range := hPre_in_range)
    ∧ quiescent_KernelIdeal_pre_finite_time (hKernelIdeal := hKernelIdeal) (hPre_finite_time := hPre_finite_time)
    ∧ quiescent_ReferenceIdeal (hReferenceIdeal := hReferenceIdeal)
    ∧ quiescent_ReferenceIdeal_pre_finite_time (hReferenceIdeal := hReferenceIdeal) (hPre_finite_time := hPre_finite_time)
    ∧ preserves_Kernel_KernelIdeal
    ∧ algebraic_KernelIdeal_ReferenceIdeal_pre_finite_time (hKernelIdeal := hKernelIdeal) (hReferenceIdeal := hReferenceIdeal) (hPre_finite_time := hPre_finite_time)
-- ==== Pre_finite_time.lean ====
abbrev S2097152x2 : Shape := ⟨2, ![2097152, 2]⟩
abbrev S1024x1024x4 : Shape := ⟨3, ![1024, 1024, 4]⟩
abbrev S2x16 : Shape := ⟨2, ![2, 16]⟩
abbrev S16 : Shape := ⟨1, ![16]⟩
abbrev S6x16 : Shape := ⟨2, ![6, 16]⟩
abbrev S12x16 : Shape := ⟨2, ![12, 16]⟩
abbrev S48x128 : Shape := ⟨2, ![48, 128]⟩
abbrev S128 : Shape := ⟨1, ![128]⟩
abbrev S10x64 : Shape := ⟨2, ![10, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩
abbrev S2097152x1 : Shape := ⟨2, ![2097152, 1]⟩

class Facts : Prop where
  bcast_S_S2097152x2 : S_.BroadcastsInDim S2097152x2 (![] : Fin 0 → Fin S2097152x2.rank)
  slices_S2097152x2_S2097152x1_0_0 : S2097152x2.Slices ![0, 0] S2097152x1
  bcast_S_S2097152x1 : S_.BroadcastsInDim S2097152x1 (![] : Fin 0 → Fin S2097152x1.rank)
  bcast_S2097152x1_S2097152x2_0_1 : S2097152x1.BroadcastsInDim S2097152x2 (![0, 1] : Fin 2 → Fin S2097152x2.rank)

variable [Facts]

def fn {F : FTy → Type} [FloatOps F] (main_arg0 : IVec S2097152x2 32) (main_arg1 : FVec F S2097152x2 .f32) (main_arg2 : FVec F S1024x1024x4 .f32) (main_arg3 : FVec F S2x16 .f32) (main_arg4 : FVec F S16 .f32) (main_arg5 : FVec F S6x16 .f32) (main_arg6 : FVec F S16 .f32) (main_arg7 : FVec F S12x16 .f32) (main_arg8 : FVec F S16 .f32) (main_arg9 : FVec F S48x128 .f32) (main_arg10 : FVec F S128 .f32) (main_arg11 : FVec F S10x64 .f32) (main_arg12 : FVec F S64 .f32) (main_arg13 : FVec F S64x64 .f32) (main_arg14 : FVec F S64 .f32) (main_arg15 : FVec F S64x4 .f32) (main_arg16 : FVec F S4 .f32) : IVec S2097152x2 1 :=
  let main_c : IVec S_ 32 := constantI S_ 32 0#32
  let main_v0 : IVec S2097152x2 32 := broadcastInDim S2097152x2 ![] bcast_S_S2097152x2 main_c
  let main_v1 : IVec S2097152x2 1 := cmpi .sge main_arg0 main_v0
  let main_c_0 : IVec S_ 32 := constantI S_ 32 1024#32
  let main_v2 : IVec S2097152x2 32 := broadcastInDim S2097152x2 ![] bcast_S_S2097152x2 main_c_0
  let main_v3 : IVec S2097152x2 1 := cmpi .slt main_arg0 main_v2
  let main_v4 : IVec S2097152x2 1 := andi main_v1 main_v3
  let main_v5 : FVec F S2097152x1 .f32 := (extractStridedSlice S2097152x1 ![0, 0] · slices_S2097152x2_S2097152x1_0_0) main_arg1
  let main_v6 : FVec F S2097152x1 .f32 := Host.absf main_v5
  let main_cst : FVec F S_ .f32 := constant S_ .f32 0x7F800000#32
  let main_v7 : FVec F S2097152x1 .f32 := broadcastInDim S2097152x1 ![] bcast_S_S2097152x1 main_cst
  let main_v8 : IVec S2097152x1 1 := cmpf .olt main_v6 main_v7
  let main_v9 : IVec S2097152x2 1 := broadcastInDim S2097152x2 ![0, 1] bcast_S2097152x1_S2097152x2_0_1 main_v8
  let main_v10 : IVec S2097152x2 1 := andi main_v4 main_v9
  main_v10
-- ==== Pre_in_range.lean ====
abbrev S2097152x2 : Shape := ⟨2, ![2097152, 2]⟩
abbrev S1024x1024x4 : Shape := ⟨3, ![1024, 1024, 4]⟩
abbrev S2x16 : Shape := ⟨2, ![2, 16]⟩
abbrev S16 : Shape := ⟨1, ![16]⟩
abbrev S6x16 : Shape := ⟨2, ![6, 16]⟩
abbrev S12x16 : Shape := ⟨2, ![12, 16]⟩
abbrev S48x128 : Shape := ⟨2, ![48, 128]⟩
abbrev S128 : Shape := ⟨1, ![128]⟩
abbrev S10x64 : Shape := ⟨2, ![10, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S2097152x2 : S_.BroadcastsInDim S2097152x2 (![] : Fin 0 → Fin S2097152x2.rank)

variable [Facts]

def fn {F : FTy → Type} [FloatOps F] (main_arg0 : IVec S2097152x2 32) (main_arg1 : FVec F S2097152x2 .f32) (main_arg2 : FVec F S1024x1024x4 .f32) (main_arg3 : FVec F S2x16 .f32) (main_arg4 : FVec F S16 .f32) (main_arg5 : FVec F S6x16 .f32) (main_arg6 : FVec F S16 .f32) (main_arg7 : FVec F S12x16 .f32) (main_arg8 : FVec F S16 .f32) (main_arg9 : FVec F S48x128 .f32) (main_arg10 : FVec F S128 .f32) (main_arg11 : FVec F S10x64 .f32) (main_arg12 : FVec F S64 .f32) (main_arg13 : FVec F S64x64 .f32) (main_arg14 : FVec F S64 .f32) (main_arg15 : FVec F S64x4 .f32) (main_arg16 : FVec F S4 .f32) : IVec S2097152x2 1 :=
  let main_c : IVec S_ 32 := constantI S_ 32 0#32
  let main_v0 : IVec S2097152x2 32 := broadcastInDim S2097152x2 ![] bcast_S_S2097152x2 main_c
  let main_v1 : IVec S2097152x2 1 := cmpi .sge main_arg0 main_v0
  let main_c_0 : IVec S_ 32 := constantI S_ 32 1024#32
  let main_v2 : IVec S2097152x2 32 := broadcastInDim S2097152x2 ![] bcast_S_S2097152x2 main_c_0
  let main_v3 : IVec S2097152x2 1 := cmpi .slt main_arg0 main_v2
  let main_v4 : IVec S2097152x2 1 := andi main_v1 main_v3
  main_v4
-- ==== Kernel.lean ====
abbrev S2097152x2 : Shape := ⟨2, ![2097152, 2]⟩
abbrev S1024x1024x4 : Shape := ⟨3, ![1024, 1024, 4]⟩
abbrev S2x16 : Shape := ⟨2, ![2, 16]⟩
abbrev S16 : Shape := ⟨1, ![16]⟩
abbrev S6x16 : Shape := ⟨2, ![6, 16]⟩
abbrev S12x16 : Shape := ⟨2, ![12, 16]⟩
abbrev S48x128 : Shape := ⟨2, ![48, 128]⟩
abbrev S128 : Shape := ⟨1, ![128]⟩
abbrev S10x64 : Shape := ⟨2, ![10, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S2 : Shape := ⟨1, ![2]⟩
abbrev S512x4096x2 : Shape := ⟨3, ![512, 4096, 2]⟩
abbrev S1x1x2 : Shape := ⟨3, ![1, 1, 2]⟩
abbrev S_ : Shape := ⟨0, ![]⟩
abbrev S512x4096 : Shape := ⟨2, ![512, 4096]⟩
abbrev S4096 : Shape := ⟨1, ![4096]⟩
abbrev S1x4096 : Shape := ⟨2, ![1, 4096]⟩
abbrev S512x1x4096 : Shape := ⟨3, ![512, 1, 4096]⟩
abbrev S512x4096x1 : Shape := ⟨3, ![512, 4096, 1]⟩
abbrev S2x2097152 : Shape := ⟨2, ![2, 2097152]⟩
abbrev S2x512x1x4096 : Shape := ⟨4, ![2, 512, 1, 4096]⟩
abbrev S32768x128 : Shape := ⟨2, ![32768, 128]⟩
abbrev S24x112 : Shape := ⟨2, ![24, 112]⟩
abbrev S1x64 : Shape := ⟨2, ![1, 64]⟩
abbrev S1 : Shape := ⟨1, ![1]⟩
abbrev S1x16 : Shape := ⟨2, ![1, 16]⟩
abbrev S112x24 : Shape := ⟨2, ![112, 24]⟩
abbrev S112 : Shape := ⟨1, ![112]⟩
abbrev S112x1 : Shape := ⟨2, ![112, 1]⟩
abbrev S4x64 : Shape := ⟨2, ![4, 64]⟩
abbrev S48x64 : Shape := ⟨2, ![48, 64]⟩
abbrev S64x48 : Shape := ⟨2, ![64, 48]⟩
abbrev S64x1 : Shape := ⟨2, ![64, 1]⟩
abbrev S4x1 : Shape := ⟨2, ![4, 1]⟩
abbrev S4x2097152 : Shape := ⟨2, ![4, 2097152]⟩
abbrev S2097152x4 : Shape := ⟨2, ![2097152, 4]⟩
abbrev S1x1x4096 : Shape := ⟨3, ![1, 1, 4096]⟩
abbrev S1x4096x1 : Shape := ⟨3, ![1, 4096, 1]⟩
abbrev S1x1x1x4096 : Shape := ⟨4, ![1, 1, 1, 4096]⟩
abbrev S4x4096 : Shape := ⟨2, ![4, 4096]⟩
abbrev S4096x128 : Shape := ⟨2, ![4096, 128]⟩
abbrev S1x1x1 : Shape := ⟨3, ![1, 1, 1]⟩
abbrev S8x128 : Shape := ⟨2, ![8, 128]⟩
abbrev S1x128 : Shape := ⟨2, ![1, 128]⟩
abbrev S4096x1 : Shape := ⟨2, ![4096, 1]⟩
abbrev S4096x128x1 : Shape := ⟨3, ![4096, 128, 1]⟩
abbrev S4096x4 : Shape := ⟨2, ![4096, 4]⟩
abbrev S24x4096 : Shape := ⟨2, ![24, 4096]⟩
abbrev S112x4096 : Shape := ⟨2, ![112, 4096]⟩
abbrev S64x4096 : Shape := ⟨2, ![64, 4096]⟩
abbrev S48x4096 : Shape := ⟨2, ![48, 4096]⟩

abbrev nBuf : Space → Nat
  | .hbm => 150
  | .vmem => 23
  | .smem => 4
  | _ => 0

abbrev hbmTy0_0 (i : Nat) : BufTy := match i % 128 with
  | 0 => ⟨S2097152x2, .i32⟩
  | 1 => ⟨S2097152x2, .f32⟩
  | 2 => ⟨S1024x1024x4, .f32⟩
  | 3 => ⟨S2x16, .f32⟩
  | 4 => ⟨S16, .f32⟩
  | 5 => ⟨S6x16, .f32⟩
  | 6 => ⟨S16, .f32⟩
  | 7 => ⟨S12x16, .f32⟩
  | 8 => ⟨S16, .f32⟩
  | 9 => ⟨S48x128, .f32⟩
  | 10 => ⟨S128, .f32⟩
  | 11 => ⟨S10x64, .f32⟩
  | 12 => ⟨S64, .f32⟩
  | 13 => ⟨S64x64, .f32⟩
  | 14 => ⟨S64, .f32⟩
  | 15 => ⟨S64x4, .f32⟩
  | 16 => ⟨S4, .f32⟩
  | 17 => ⟨S2, .i32⟩
  | 18 => ⟨S512x4096x2, .i32⟩
  | 19 => ⟨S1x1x2, .i32⟩
  | 20 => ⟨S512x4096x2, .i32⟩
  | 21 => ⟨S512x4096x2, .i32⟩
  | 22 => ⟨S_, .i32⟩
  | 23 => ⟨S512x4096, .i32⟩
  | 24 => ⟨S4096, .i32⟩
  | 25 => ⟨S1x4096, .i32⟩
  | 26 => ⟨S_, .i32⟩
  | 27 => ⟨S512x4096, .i32⟩
  | 28 => ⟨S512x4096, .i32⟩
  | 29 => ⟨S_, .i32⟩
  | 30 => ⟨S512x4096, .i32⟩
  | 31 => ⟨S512x4096, .i32⟩
  | 32 => ⟨S512x1x4096, .i32⟩
  | 33 => ⟨S_, .i32⟩
  | 34 => ⟨S1x4096, .i32⟩
  | 35 => ⟨S1x4096, .i32⟩
  | 36 => ⟨S_, .i32⟩
  | 37 => ⟨S512x4096, .i32⟩
  | 38 => ⟨S512x4096, .i32⟩
  | 39 => ⟨S_, .i32⟩
  | 40 => ⟨S512x4096, .i32⟩
  | 41 => ⟨S512x4096, .i32⟩
  | 42 => ⟨S512x4096, .i32⟩
  | 43 => ⟨S512x4096, .i32⟩
  | 44 => ⟨S_, .i32⟩
  | 45 => ⟨S512x4096, .i32⟩
  | 46 => ⟨S512x4096, .i32⟩
  | 47 => ⟨S512x1x4096, .i32⟩
  | 48 => ⟨S512x4096x1, .i32⟩
  | 49 => ⟨S512x1x4096, .i32⟩
  | 50 => ⟨S2x2097152, .f32⟩
  | 51 => ⟨S2x512x1x4096, .f32⟩
  | 52 => ⟨S32768x128, .f32⟩
  | 53 => ⟨S_, .f32⟩
  | 54 => ⟨S24x112, .f32⟩
  | 55 => ⟨S1x64, .f32⟩
  | 56 => ⟨S64, .f32⟩
  | 57 => ⟨S_, .i32⟩
  | 58 => ⟨S1, .i32⟩
  | 59 => ⟨S_, .i32⟩
  | 60 => ⟨S1, .i32⟩
  | 61 => ⟨S2, .i32⟩
  | 62 => ⟨S24x112, .f32⟩
  | 63 => ⟨S1x64, .f32⟩
  | 64 => ⟨S64, .f32⟩
  | 65 => ⟨S_, .i32⟩
  | 66 => ⟨S1, .i32⟩
  | 67 => ⟨S_, .i32⟩
  | 68 => ⟨S1, .i32⟩
  | 69 => ⟨S2, .i32⟩
  | 70 => ⟨S24x112, .f32⟩
  | 71 => ⟨S1x64, .f32⟩
  | 72 => ⟨S64, .f32⟩
  | 73 => ⟨S_, .i32⟩
  | 74 => ⟨S1, .i32⟩
  | 75 => ⟨S_, .i32⟩
  | 76 => ⟨S1, .i32⟩
  | 77 => ⟨S2, .i32⟩
  | 78 => ⟨S24x112, .f32⟩
  | 79 => ⟨S1x64, .f32⟩
  | 80 => ⟨S64, .f32⟩
  | 81 => ⟨S_, .i32⟩
  | 82 => ⟨S1, .i32⟩
  | 83 => ⟨S_, .i32⟩
  | 84 => ⟨S1, .i32⟩
  | 85 => ⟨S2, .i32⟩
  | 86 => ⟨S24x112, .f32⟩
  | 87 => ⟨S1x64, .f32⟩
  | 88 => ⟨S64, .f32⟩
  | 89 => ⟨S_, .i32⟩
  | 90 => ⟨S1, .i32⟩
  | 91 => ⟨S_, .i32⟩
  | 92 => ⟨S1, .i32⟩
  | 93 => ⟨S2, .i32⟩
  | 94 => ⟨S24x112, .f32⟩
  | 95 => ⟨S1x64, .f32⟩
  | 96 => ⟨S64, .f32⟩
  | 97 => ⟨S_, .i32⟩
  | 98 => ⟨S1, .i32⟩
  | 99 => ⟨S_, .i32⟩
  | 100 => ⟨S1, .i32⟩
  | 101 => ⟨S2, .i32⟩
  | 102 => ⟨S24x112, .f32⟩
  | 103 => ⟨S1x16, .f32⟩
  | 104 => ⟨S16, .f32⟩
  | 105 => ⟨S_, .i32⟩
  | 106 => ⟨S1, .i32⟩
  | 107 => ⟨S_, .i32⟩
  | 108 => ⟨S1, .i32⟩
  | 109 => ⟨S2, .i32⟩
  | 110 => ⟨S24x112, .f32⟩
  | 111 => ⟨S1x16, .f32⟩
  | 112 => ⟨S16, .f32⟩
  | 113 => ⟨S_, .i32⟩
  | 114 => ⟨S1, .i32⟩
  | 115 => ⟨S_, .i32⟩
  | 116 => ⟨S1, .i32⟩
  | 117 => ⟨S2, .i32⟩
  | 118 => ⟨S24x112, .f32⟩
  | 119 => ⟨S_, .i32⟩
  | 120 => ⟨S1, .i32⟩
  | 121 => ⟨S_, .i32⟩
  | 122 => ⟨S1, .i32⟩
  | 123 => ⟨S2, .i32⟩
  | 124 => ⟨S24x112, .f32⟩
  | 125 => ⟨S_, .i32⟩
  | 126 => ⟨S1, .i32⟩
  | 127 => ⟨S_, .i32⟩
  | _ => ⟨S2097152x2, .i32⟩

abbrev hbmTy0_1 (i : Nat) : BufTy := match i % 128 with
  | 0 => ⟨S1, .i32⟩
  | 1 => ⟨S2, .i32⟩
  | 2 => ⟨S24x112, .f32⟩
  | 3 => ⟨S112x24, .f32⟩
  | 4 => ⟨S112, .f32⟩
  | 5 => ⟨S112x1, .f32⟩
  | 6 => ⟨S4x64, .f32⟩
  | 7 => ⟨S64x4, .f32⟩
  | 8 => ⟨S48x64, .f32⟩
  | 9 => ⟨S64x48, .f32⟩
  | 10 => ⟨S48x64, .f32⟩
  | 11 => ⟨S64x48, .f32⟩
  | 12 => ⟨S64, .f32⟩
  | 13 => ⟨S64x1, .f32⟩
  | 14 => ⟨S64, .f32⟩
  | 15 => ⟨S64x1, .f32⟩
  | 16 => ⟨S64x64, .f32⟩
  | 17 => ⟨S64x1, .f32⟩
  | 18 => ⟨S4x64, .f32⟩
  | 19 => ⟨S4x1, .f32⟩
  | 20 => ⟨S4x2097152, .f32⟩
  | 21 => ⟨S2097152x4, .f32⟩
  | _ => ⟨S2097152x2, .i32⟩

abbrev hbmTy (i : Nat) : BufTy := match i / 128 with
  | 0 => hbmTy0_0 i
  | 1 => hbmTy0_1 i
  | _ => ⟨S2097152x2, .i32⟩

abbrev bufTy : (tb : Table) → Fin (tcTables nBuf tb) → BufTy
  | .hbm, ⟨i, _⟩ => hbmTy i
  | .local _ .vmem, ⟨0, _⟩ => ⟨S1x4096x1, .i32⟩
  | .local _ .vmem, ⟨1, _⟩ => ⟨S1x4096x1, .i32⟩
  | .local _ .vmem, ⟨2, _⟩ => ⟨S1x1x4096, .i32⟩
  | .local _ .vmem, ⟨3, _⟩ => ⟨S1x1x4096, .i32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S1x1x1x4096, .f32⟩
  | .local _ .vmem, ⟨8, _⟩ => ⟨S32768x128, .f32⟩
  | .local _ .vmem, ⟨9, _⟩ => ⟨S112x24, .f32⟩
  | .local _ .vmem, ⟨10, _⟩ => ⟨S112x1, .f32⟩
  | .local _ .vmem, ⟨11, _⟩ => ⟨S64x4, .f32⟩
  | .local _ .vmem, ⟨12, _⟩ => ⟨S64x48, .f32⟩
  | .local _ .vmem, ⟨13, _⟩ => ⟨S64x48, .f32⟩
  | .local _ .vmem, ⟨14, _⟩ => ⟨S64x1, .f32⟩
  | .local _ .vmem, ⟨15, _⟩ => ⟨S64x1, .f32⟩
  | .local _ .vmem, ⟨16, _⟩ => ⟨S64x64, .f32⟩
  | .local _ .vmem, ⟨17, _⟩ => ⟨S64x1, .f32⟩
  | .local _ .vmem, ⟨18, _⟩ => ⟨S4x64, .f32⟩
  | .local _ .vmem, ⟨19, _⟩ => ⟨S4x1, .f32⟩
  | .local _ .vmem, ⟨20, _⟩ => ⟨S4x4096, .f32⟩
  | .local _ .vmem, ⟨21, _⟩ => ⟨S4x4096, .f32⟩
  | .local _ .vmem, ⟨22, _⟩ => ⟨S4096x128, .f32⟩
  | .local _ .smem, ⟨0, _⟩ => ⟨S1x1x4096, .i32⟩
  | .local _ .smem, ⟨1, _⟩ => ⟨S1x1x4096, .i32⟩
  | .local _ .smem, ⟨2, _⟩ => ⟨S1x1x4096, .i32⟩
  | .local _ .smem, ⟨3, _⟩ => ⟨S1x1x4096, .i32⟩
  | _, _ => ⟨S2097152x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_c_0 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_c_1 : Ref sig .tc := ⟨.hbm, 26, rfl⟩
abbrev main_call0_v7 : Ref sig .tc := ⟨.hbm, 27, rfl⟩
abbrev main_call0_v8 : Ref sig .tc := ⟨.hbm, 28, rfl⟩
abbrev main_call0_c_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_c_4 : Ref sig .tc := ⟨.hbm, 36, rfl⟩
abbrev main_call0_v14 : Ref sig .tc := ⟨.hbm, 37, rfl⟩
abbrev main_call0_v15 : Ref sig .tc := ⟨.hbm, 38, rfl⟩
abbrev main_call0_c_5 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_c_6 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_cst : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_c_7 : Ref sig .tc := ⟨.hbm, 57, rfl⟩
abbrev main_call0_v31 : Ref sig .tc := ⟨.hbm, 58, rfl⟩
abbrev main_call0_c_8 : Ref sig .tc := ⟨.hbm, 59, rfl⟩
abbrev main_call0_v32 : Ref sig .tc := ⟨.hbm, 60, rfl⟩
abbrev main_call0_v33 : Ref sig .tc := ⟨.hbm, 61, rfl⟩
abbrev main_call0_v34 : Ref sig .tc := ⟨.hbm, 62, rfl⟩
abbrev main_call0_v35 : Ref sig .tc := ⟨.hbm, 63, rfl⟩
abbrev main_call0_v36 : Ref sig .tc := ⟨.hbm, 64, rfl⟩
abbrev main_call0_c_9 : Ref sig .tc := ⟨.hbm, 65, rfl⟩
abbrev main_call0_v37 : Ref sig .tc := ⟨.hbm, 66, rfl⟩
abbrev main_call0_c_10 : Ref sig .tc := ⟨.hbm, 67, rfl⟩
abbrev main_call0_v38 : Ref sig .tc := ⟨.hbm, 68, rfl⟩
abbrev main_call0_v39 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_call0_c_11 : Ref sig .tc := ⟨.hbm, 73, rfl⟩
abbrev main_call0_v43 : Ref sig .tc := ⟨.hbm, 74, rfl⟩
abbrev main_call0_c_12 : Ref sig .tc := ⟨.hbm, 75, rfl⟩
abbrev main_call0_v44 : Ref sig .tc := ⟨.hbm, 76, rfl⟩
abbrev main_call0_v45 : Ref sig .tc := ⟨.hbm, 77, rfl⟩
abbrev main_call0_v46 : Ref sig .tc := ⟨.hbm, 78, rfl⟩
abbrev main_call0_v47 : Ref sig .tc := ⟨.hbm, 79, rfl⟩
abbrev main_call0_v48 : Ref sig .tc := ⟨.hbm, 80, rfl⟩
abbrev main_call0_c_13 : Ref sig .tc := ⟨.hbm, 81, rfl⟩
abbrev main_call0_v49 : Ref sig .tc := ⟨.hbm, 82, rfl⟩
abbrev main_call0_c_14 : Ref sig .tc := ⟨.hbm, 83, rfl⟩
abbrev main_call0_v50 : Ref sig .tc := ⟨.hbm, 84, rfl⟩
abbrev main_call0_v51 : Ref sig .tc := ⟨.hbm, 85, rfl⟩
abbrev main_call0_v52 : Ref sig .tc := ⟨.hbm, 86, rfl⟩
abbrev main_call0_v53 : Ref sig .tc := ⟨.hbm, 87, rfl⟩
abbrev main_call0_v54 : Ref sig .tc := ⟨.hbm, 88, rfl⟩
abbrev main_call0_c_15 : Ref sig .tc := ⟨.hbm, 89, rfl⟩
abbrev main_call0_v55 : Ref sig .tc := ⟨.hbm, 90, rfl⟩
abbrev main_call0_c_16 : Ref sig .tc := ⟨.hbm, 91, rfl⟩
abbrev main_call0_v56 : Ref sig .tc := ⟨.hbm, 92, rfl⟩
abbrev main_call0_v57 : Ref sig .tc := ⟨.hbm, 93, rfl⟩
abbrev main_call0_v58 : Ref sig .tc := ⟨.hbm, 94, rfl⟩
abbrev main_call0_v59 : Ref sig .tc := ⟨.hbm, 95, rfl⟩
abbrev main_call0_v60 : Ref sig .tc := ⟨.hbm, 96, rfl⟩
abbrev main_call0_c_17 : Ref sig .tc := ⟨.hbm, 97, rfl⟩
abbrev main_call0_v61 : Ref sig .tc := ⟨.hbm, 98, rfl⟩
abbrev main_call0_c_18 : Ref sig .tc := ⟨.hbm, 99, rfl⟩
abbrev main_call0_v62 : Ref sig .tc := ⟨.hbm, 100, rfl⟩
abbrev main_call0_v63 : Ref sig .tc := ⟨.hbm, 101, rfl⟩
abbrev main_call0_v64 : Ref sig .tc := ⟨.hbm, 102, rfl⟩
abbrev main_call0_v65 : Ref sig .tc := ⟨.hbm, 103, rfl⟩
abbrev main_call0_v66 : Ref sig .tc := ⟨.hbm, 104, rfl⟩
abbrev main_call0_c_19 : Ref sig .tc := ⟨.hbm, 105, rfl⟩
abbrev main_call0_v67 : Ref sig .tc := ⟨.hbm, 106, rfl⟩
abbrev main_call0_c_20 : Ref sig .tc := ⟨.hbm, 107, rfl⟩
abbrev main_call0_v68 : Ref sig .tc := ⟨.hbm, 108, rfl⟩
abbrev main_call0_v69 : Ref sig .tc := ⟨.hbm, 109, rfl⟩
abbrev main_call0_v70 : Ref sig .tc := ⟨.hbm, 110, rfl⟩
abbrev main_call0_v71 : Ref sig .tc := ⟨.hbm, 111, rfl⟩
abbrev main_call0_v72 : Ref sig .tc := ⟨.hbm, 112, rfl⟩
abbrev main_call0_c_21 : Ref sig .tc := ⟨.hbm, 113, rfl⟩
abbrev main_call0_v73 : Ref sig .tc := ⟨.hbm, 114, rfl⟩
abbrev main_call0_c_22 : Ref sig .tc := ⟨.hbm, 115, rfl⟩
abbrev main_call0_v74 : Ref sig .tc := ⟨.hbm, 116, rfl⟩
abbrev main_call0_v75 : Ref sig .tc := ⟨.hbm, 117, rfl⟩
abbrev main_call0_v76 : Ref sig .tc := ⟨.hbm, 118, rfl⟩
abbrev main_call0_c_23 : Ref sig .tc := ⟨.hbm, 119, rfl⟩
abbrev main_call0_v77 : Ref sig .tc := ⟨.hbm, 120, rfl⟩
abbrev main_call0_c_24 : Ref sig .tc := ⟨.hbm, 121, rfl⟩
abbrev main_call0_v78 : Ref sig .tc := ⟨.hbm, 122, rfl⟩
abbrev main_call0_v79 : Ref sig .tc := ⟨.hbm, 123, rfl⟩
abbrev main_call0_v80 : Ref sig .tc := ⟨.hbm, 124, rfl⟩
abbrev main_call0_c_25 : Ref sig .tc := ⟨.hbm, 125, rfl⟩
abbrev main_call0_v81 : Ref sig .tc := ⟨.hbm, 126, rfl⟩
abbrev main_call0_c_26 : Ref sig .tc := ⟨.hbm, 127, rfl⟩
abbrev main_call0_v82 : Ref sig .tc := ⟨.hbm, 128, rfl⟩
abbrev main_call0_v83 : Ref sig .tc := ⟨.hbm, 129, rfl⟩
abbrev main_call0_v84 : Ref sig .tc := ⟨.hbm, 130, rfl⟩
abbrev main_call0_v85 : Ref sig .tc := ⟨.hbm, 131, rfl⟩
abbrev main_call0_v86 : Ref sig .tc := ⟨.hbm, 132, rfl⟩
abbrev main_call0_v87 : Ref sig .tc := ⟨.hbm, 133, rfl⟩
abbrev main_call0_v88 : Ref sig .tc := ⟨.hbm, 134, rfl⟩
abbrev main_call0_v89 : Ref sig .tc := ⟨.hbm, 135, rfl⟩
abbrev main_call0_v90 : Ref sig .tc := ⟨.hbm, 136, rfl⟩
abbrev main_call0_v91 : Ref sig .tc := ⟨.hbm, 137, rfl⟩
abbrev main_call0_v92 : Ref sig .tc := ⟨.hbm, 138, rfl⟩
abbrev main_call0_v93 : Ref sig .tc := ⟨.hbm, 139, rfl⟩
abbrev main_call0_v94 : Ref sig .tc := ⟨.hbm, 140, rfl⟩
abbrev main_call0_v95 : Ref sig .tc := ⟨.hbm, 141, rfl⟩
abbrev main_call0_v96 : Ref sig .tc := ⟨.hbm, 142, rfl⟩
abbrev main_call0_v97 : Ref sig .tc := ⟨.hbm, 143, rfl⟩
abbrev main_call0_v98 : Ref sig .tc := ⟨.hbm, 144, rfl⟩
abbrev main_call0_v99 : Ref sig .tc := ⟨.hbm, 145, rfl⟩
abbrev main_call0_v100 : Ref sig .tc := ⟨.hbm, 146, rfl⟩
abbrev main_call0_v101 : Ref sig .tc := ⟨.hbm, 147, rfl⟩
abbrev main_call0_v102 : Ref sig .tc := ⟨.hbm, 148, rfl⟩
abbrev main_v0 : Ref sig .tc := ⟨.hbm, 149, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![512], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  v157
def k0_off1 (k0_t1 : Fin k0_t1_loop.trips) : Fin 3 → Nat :=
  let c0_69 : Index := 0#32
  let c0_70 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c0_i32_68 : BitVec 32 := 0#32
  let v159 : BitVec 32 := Scalar.addi v158 c0_i32_68
  let v160 : Index := Scalar.indexCast v159
  ![0, 0, v160.toNat]
def k0_mult2 (v161 : BitVec 32) : BitVec 32 :=
  v161

def k0_off2 (k0_t1 : Fin k0_t1_loop.trips) (c0_i32_71 : BitVec 32) : Fin 3 → Nat :=
  let c0_72 : Index := 0#32
  let c0_73 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let v163 : BitVec 32 := Scalar.addi v158 c0_i32_71
  let v164 : Index := Scalar.indexCast v163
  ![0, 0, v164.toNat]
def k0_off3 (v161 : BitVec 32) : Fin 2 → Nat :=
  let v162 : BitVec 32 := v161
  let v166 : Index := Scalar.indexCast v162
  let c0_74 : Index := 0#32
  ![v166.toNat, 0]

def k0_chk1 (v161 : BitVec 32) : Prop :=
  (8 ∣ (k0_mult2 v161).toNat) ∧
  (∀ a, (k0_off3 v161) a + S8x128.size a ≤ S32768x128.size a)
theorem k0_mult2_dvd : ∀ (v161 : BitVec 32) (k0_hw1 : k0_chk1 v161), 8 ∣ (k0_mult2 v161).toNat := fun v161 k0_hw1 => k0_hw1.1
theorem k0_off3_inb : ∀ (v161 : BitVec 32) (k0_hw1 : k0_chk1 v161), ∀ a, (k0_off3 v161) a + S8x128.size a ≤ S32768x128.size a := fun v161 k0_hw1 => k0_hw1.2

def k0_off4 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c0_i32_75 : BitVec 32 := 0#32
  let v171 : BitVec 32 := Scalar.addi v158 c0_i32_75
  let v172 : Index := Scalar.indexCast v171
  let c0_76 : Index := 0#32
  ![v172.toNat, 0]
def k0_mult3 (v178 : BitVec 32) : BitVec 32 :=
  v178

def k0_off5 (k0_t1 : Fin k0_t1_loop.trips) (c1_i32_80 : BitVec 32) : Fin 3 → Nat :=
  let c0_81 : Index := 0#32
  let c0_82 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let v180 : BitVec 32 := Scalar.addi v158 c1_i32_80
  let v181 : Index := Scalar.indexCast v180
  ![0, 0, v181.toNat]
def k0_off6 (v178 : BitVec 32) : Fin 2 → Nat :=
  let v179 : BitVec 32 := v178
  let v183 : Index := Scalar.indexCast v179
  let c0_83 : Index := 0#32
  ![v183.toNat, 0]

def k0_chk2 (v178 : BitVec 32) : Prop :=
  (8 ∣ (k0_mult3 v178).toNat) ∧
  (∀ a, (k0_off6 v178) a + S8x128.size a ≤ S32768x128.size a)
theorem k0_mult3_dvd : ∀ (v178 : BitVec 32) (k0_hw2 : k0_chk2 v178), 8 ∣ (k0_mult3 v178).toNat := fun v178 k0_hw2 => k0_hw2.1
theorem k0_off6_inb : ∀ (v178 : BitVec 32) (k0_hw2 : k0_chk2 v178), ∀ a, (k0_off6 v178) a + S8x128.size a ≤ S32768x128.size a := fun v178 k0_hw2 => k0_hw2.2

def k0_off7 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c1_i32_84 : BitVec 32 := 1#32
  let v188 : BitVec 32 := Scalar.addi v158 c1_i32_84
  let v189 : Index := Scalar.indexCast v188
  let c0_85 : Index := 0#32
  ![v189.toNat, 0]
def k0_mult4 (v195 : BitVec 32) : BitVec 32 :=
  v195

def k0_off8 (k0_t1 : Fin k0_t1_loop.trips) (c2_i32_88 : BitVec 32) : Fin 3 → Nat :=
  let c0_89 : Index := 0#32
  let c0_90 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let v197 : BitVec 32 := Scalar.addi v158 c2_i32_88
  let v198 : Index := Scalar.indexCast v197
  ![0, 0, v198.toNat]
def k0_off9 (v195 : BitVec 32) : Fin 2 → Nat :=
  let v196 : BitVec 32 := v195
  let v200 : Index := Scalar.indexCast v196
  let c0_91 : Index := 0#32
  ![v200.toNat, 0]

def k0_chk3 (v195 : BitVec 32) : Prop :=
  (8 ∣ (k0_mult4 v195).toNat) ∧
  (∀ a, (k0_off9 v195) a + S8x128.size a ≤ S32768x128.size a)
theorem k0_mult4_dvd : ∀ (v195 : BitVec 32) (k0_hw3 : k0_chk3 v195), 8 ∣ (k0_mult4 v195).toNat := fun v195 k0_hw3 => k0_hw3.1
theorem k0_off9_inb : ∀ (v195 : BitVec 32) (k0_hw3 : k0_chk3 v195), ∀ a, (k0_off9 v195) a + S8x128.size a ≤ S32768x128.size a := fun v195 k0_hw3 => k0_hw3.2

def k0_off10 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c2_i32_92 : BitVec 32 := 2#32
  let v205 : BitVec 32 := Scalar.addi v158 c2_i32_92
  let v206 : Index := Scalar.indexCast v205
  let c0_93 : Index := 0#32
  ![v206.toNat, 0]
def k0_mult5 (v212 : BitVec 32) : BitVec 32 :=
  v212

def k0_off11 (k0_t1 : Fin k0_t1_loop.trips) (c3_i32_97 : BitVec 32) : Fin 3 → Nat :=
  let c0_98 : Index := 0#32
  let c0_99 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let v214 : BitVec 32 := Scalar.addi v158 c3_i32_97
  let v215 : Index := Scalar.indexCast v214
  ![0, 0, v215.toNat]
def k0_off12 (v212 : BitVec 32) : Fin 2 → Nat :=
  let v213 : BitVec 32 := v212
  let v217 : Index := Scalar.indexCast v213
  let c0_100 : Index := 0#32
  ![v217.toNat, 0]

def k0_chk4 (v212 : BitVec 32) : Prop :=
  (8 ∣ (k0_mult5 v212).toNat) ∧
  (∀ a, (k0_off12 v212) a + S8x128.size a ≤ S32768x128.size a)
theorem k0_mult5_dvd : ∀ (v212 : BitVec 32) (k0_hw4 : k0_chk4 v212), 8 ∣ (k0_mult5 v212).toNat := fun v212 k0_hw4 => k0_hw4.1
theorem k0_off12_inb : ∀ (v212 : BitVec 32) (k0_hw4 : k0_chk4 v212), ∀ a, (k0_off12 v212) a + S8x128.size a ≤ S32768x128.size a := fun v212 k0_hw4 => k0_hw4.2

def k0_off13 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c3_i32_101 : BitVec 32 := 3#32
  let v222 : BitVec 32 := Scalar.addi v158 c3_i32_101
  let v223 : Index := Scalar.indexCast v222
  let c0_102 : Index := 0#32
  ![v223.toNat, 0]
def k0_mult6 (v229 : BitVec 32) : BitVec 32 :=
  v229

def k0_off14 (k0_t1 : Fin k0_t1_loop.trips) (c4_i32_106 : BitVec 32) : Fin 3 → Nat :=
  let c0_107 : Index := 0#32
  let c0_108 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let v231 : BitVec 32 := Scalar.addi v158 c4_i32_106
  let v232 : Index := Scalar.indexCast v231
  ![0, 0, v232.toNat]
def k0_off15 (v229 : BitVec 32) : Fin 2 → Nat :=
  let v230 : BitVec 32 := v229
  let v234 : Index := Scalar.indexCast v230
  let c0_109 : Index := 0#32
  ![v234.toNat, 0]

def k0_chk5 (v229 : BitVec 32) : Prop :=
  (8 ∣ (k0_mult6 v229).toNat) ∧
  (∀ a, (k0_off15 v229) a + S8x128.size a ≤ S32768x128.size a)
theorem k0_mult6_dvd : ∀ (v229 : BitVec 32) (k0_hw5 : k0_chk5 v229), 8 ∣ (k0_mult6 v229).toNat := fun v229 k0_hw5 => k0_hw5.1
theorem k0_off15_inb : ∀ (v229 : BitVec 32) (k0_hw5 : k0_chk5 v229), ∀ a, (k0_off15 v229) a + S8x128.size a ≤ S32768x128.size a := fun v229 k0_hw5 => k0_hw5.2

def k0_off16 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c4_i32_110 : BitVec 32 := 4#32
  let v239 : BitVec 32 := Scalar.addi v158 c4_i32_110
  let v240 : Index := Scalar.indexCast v239
  let c0_111 : Index := 0#32
  ![v240.toNat, 0]
def k0_mult7 (v246 : BitVec 32) : BitVec 32 :=
  v246

def k0_off17 (k0_t1 : Fin k0_t1_loop.trips) (c5_i32_114 : BitVec 32) : Fin 3 → Nat :=
  let c0_115 : Index := 0#32
  let c0_116 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let v248 : BitVec 32 := Scalar.addi v158 c5_i32_114
  let v249 : Index := Scalar.indexCast v248
  ![0, 0, v249.toNat]
def k0_off18 (v246 : BitVec 32) : Fin 2 → Nat :=
  let v247 : BitVec 32 := v246
  let v251 : Index := Scalar.indexCast v247
  let c0_117 : Index := 0#32
  ![v251.toNat, 0]

def k0_chk6 (v246 : BitVec 32) : Prop :=
  (8 ∣ (k0_mult7 v246).toNat) ∧
  (∀ a, (k0_off18 v246) a + S8x128.size a ≤ S32768x128.size a)
theorem k0_mult7_dvd : ∀ (v246 : BitVec 32) (k0_hw6 : k0_chk6 v246), 8 ∣ (k0_mult7 v246).toNat := fun v246 k0_hw6 => k0_hw6.1
theorem k0_off18_inb : ∀ (v246 : BitVec 32) (k0_hw6 : k0_chk6 v246), ∀ a, (k0_off18 v246) a + S8x128.size a ≤ S32768x128.size a := fun v246 k0_hw6 => k0_hw6.2

def k0_off19 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c5_i32_118 : BitVec 32 := 5#32
  let v256 : BitVec 32 := Scalar.addi v158 c5_i32_118
  let v257 : Index := Scalar.indexCast v256
  let c0_119 : Index := 0#32
  ![v257.toNat, 0]
def k0_mult8 (v263 : BitVec 32) : BitVec 32 :=
  v263

def k0_off20 (k0_t1 : Fin k0_t1_loop.trips) (c6_i32_122 : BitVec 32) : Fin 3 → Nat :=
  let c0_123 : Index := 0#32
  let c0_124 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let v265 : BitVec 32 := Scalar.addi v158 c6_i32_122
  let v266 : Index := Scalar.indexCast v265
  ![0, 0, v266.toNat]
def k0_off21 (v263 : BitVec 32) : Fin 2 → Nat :=
  let v264 : BitVec 32 := v263
  let v268 : Index := Scalar.indexCast v264
  let c0_125 : Index := 0#32
  ![v268.toNat, 0]

def k0_chk7 (v263 : BitVec 32) : Prop :=
  (8 ∣ (k0_mult8 v263).toNat) ∧
  (∀ a, (k0_off21 v263) a + S8x128.size a ≤ S32768x128.size a)
theorem k0_mult8_dvd : ∀ (v263 : BitVec 32) (k0_hw7 : k0_chk7 v263), 8 ∣ (k0_mult8 v263).toNat := fun v263 k0_hw7 => k0_hw7.1
theorem k0_off21_inb : ∀ (v263 : BitVec 32) (k0_hw7 : k0_chk7 v263), ∀ a, (k0_off21 v263) a + S8x128.size a ≤ S32768x128.size a := fun v263 k0_hw7 => k0_hw7.2

def k0_off22 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c6_i32_126 : BitVec 32 := 6#32
  let v273 : BitVec 32 := Scalar.addi v158 c6_i32_126
  let v274 : Index := Scalar.indexCast v273
  let c0_127 : Index := 0#32
  ![v274.toNat, 0]
def k0_mult9 (v280 : BitVec 32) : BitVec 32 :=
  v280

def k0_off23 (k0_t1 : Fin k0_t1_loop.trips) : Fin 3 → Nat :=
  let c0_131 : Index := 0#32
  let c0_132 : Index := 0#32
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c7_i32_130 : BitVec 32 := 7#32
  let v282 : BitVec 32 := Scalar.addi v158 c7_i32_130
  let v283 : Index := Scalar.indexCast v282
  ![0, 0, v283.toNat]
def k0_off24 (v280 : BitVec 32) : Fin 2 → Nat :=
  let v281 : BitVec 32 := v280
  let v285 : Index := Scalar.indexCast v281
  let c0_133 : Index := 0#32
  ![v285.toNat, 0]

def k0_chk8 (v280 : BitVec 32) : Prop :=
  (8 ∣ (k0_mult9 v280).toNat) ∧
  (∀ a, (k0_off24 v280) a + S8x128.size a ≤ S32768x128.size a)
theorem k0_mult9_dvd : ∀ (v280 : BitVec 32) (k0_hw8 : k0_chk8 v280), 8 ∣ (k0_mult9 v280).toNat := fun v280 k0_hw8 => k0_hw8.1
theorem k0_off24_inb : ∀ (v280 : BitVec 32) (k0_hw8 : k0_chk8 v280), ∀ a, (k0_off24 v280) a + S8x128.size a ≤ S32768x128.size a := fun v280 k0_hw8 => k0_hw8.2

def k0_off25 (k0_t1 : Fin k0_t1_loop.trips) : Fin 2 → Nat :=
  let c0_i32 : BitVec 32 := 0#32
  let c1_i32 : BitVec 32 := 1#32
  let arg21 : BitVec 32 := Scf.iv c0_i32 c1_i32 k0_t1
  let c8_i32 : BitVec 32 := 8#32
  let v157 : BitVec 32 := Scalar.muli arg21 c8_i32
  let v158 : BitVec 32 := v157
  let c7_i32_134 : BitVec 32 := 7#32
  let v290 : BitVec 32 := Scalar.addi v158 c7_i32_134
  let v291 : Index := Scalar.indexCast v290
  let c0_135 : Index := 0#32
  ![v291.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .smem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32768x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S112x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S112x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x48 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S4x4096 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S2097152x2 : Shape := ⟨2, ![2097152, 2]⟩
abbrev S1024x1024x4 : Shape := ⟨3, ![1024, 1024, 4]⟩
abbrev S2x16 : Shape := ⟨2, ![2, 16]⟩
abbrev S16 : Shape := ⟨1, ![16]⟩
abbrev S6x16 : Shape := ⟨2, ![6, 16]⟩
abbrev S12x16 : Shape := ⟨2, ![12, 16]⟩
abbrev S48x128 : Shape := ⟨2, ![48, 128]⟩
abbrev S128 : Shape := ⟨1, ![128]⟩
abbrev S10x64 : Shape := ⟨2, ![10, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S2097152x1 : Shape := ⟨2, ![2097152, 1]⟩
abbrev S2097152 : Shape := ⟨1, ![2097152]⟩
abbrev S_ : Shape := ⟨0, ![]⟩
abbrev S1048576x4 : Shape := ⟨2, ![1048576, 4]⟩
abbrev S2097152x4 : Shape := ⟨2, ![2097152, 4]⟩
abbrev S2097152x6 : Shape := ⟨2, ![2097152, 6]⟩
abbrev S2097152x10 : Shape := ⟨2, ![2097152, 10]⟩
abbrev S2097152x16 : Shape := ⟨2, ![2097152, 16]⟩
abbrev S1x16 : Shape := ⟨2, ![1, 16]⟩
abbrev S2097152x12 : Shape := ⟨2, ![2097152, 12]⟩
abbrev S2097152x48 : Shape := ⟨2, ![2097152, 48]⟩
abbrev S2097152x128 : Shape := ⟨2, ![2097152, 128]⟩
abbrev S1x128 : Shape := ⟨2, ![1, 128]⟩
abbrev S2097152x64 : Shape := ⟨2, ![2097152, 64]⟩
abbrev S1x64 : Shape := ⟨2, ![1, 64]⟩
abbrev S1x4 : Shape := ⟨2, ![1, 4]⟩

abbrev nBuf : Space → Nat
  | .hbm => 215
  | .vmem => 0
  | .smem => 0
  | _ => 0

abbrev hbmTy0_0 (i : Nat) : BufTy := match i % 128 with
  | 0 => ⟨S2097152x2, .i32⟩
  | 1 => ⟨S2097152x2, .f32⟩
  | 2 => ⟨S1024x1024x4, .f32⟩
  | 3 => ⟨S2x16, .f32⟩
  | 4 => ⟨S16, .f32⟩
  | 5 => ⟨S6x16, .f32⟩
  | 6 => ⟨S16, .f32⟩
  | 7 => ⟨S12x16, .f32⟩
  | 8 => ⟨S16, .f32⟩
  | 9 => ⟨S48x128, .f32⟩
  | 10 => ⟨S128, .f32⟩
  | 11 => ⟨S10x64, .f32⟩
  | 12 => ⟨S64, .f32⟩
  | 13 => ⟨S64x64, .f32⟩
  | 14 => ⟨S64, .f32⟩
  | 15 => ⟨S64x4, .f32⟩
  | 16 => ⟨S4, .f32⟩
  | 17 => ⟨S2097152x1, .i32⟩
  | 18 => ⟨S2097152, .i32⟩
  | 19 => ⟨S_, .i32⟩
  | 20 => ⟨S2097152, .i32⟩
  | 21 => ⟨S2097152, .i32⟩
  | 22 => ⟨S2097152x1, .i32⟩
  | 23 => ⟨S2097152, .i32⟩
  | 24 => ⟨S2097152, .i32⟩
  | 25 => ⟨S1048576x4, .f32⟩
  | 26 => ⟨S_, .i32⟩
  | 27 => ⟨S2097152, .i32⟩
  | 28 => ⟨S2097152, .i1⟩
  | 29 => ⟨S_, .i32⟩
  | 30 => ⟨S2097152, .i32⟩
  | 31 => ⟨S2097152, .i32⟩
  | 32 => ⟨S2097152, .i32⟩
  | 33 => ⟨S2097152x1, .i32⟩
  | 34 => ⟨S2097152x4, .f32⟩
  | 35 => ⟨S2097152x1, .i32⟩
  | 36 => ⟨S_, .i32⟩
  | 37 => ⟨S_, .i32⟩
  | 38 => ⟨S_, .i32⟩
  | 39 => ⟨S2097152x1, .i32⟩
  | 40 => ⟨S2097152x1, .i32⟩
  | 41 => ⟨S_, .i32⟩
  | 42 => ⟨S2097152x1, .i32⟩
  | 43 => ⟨S2097152x1, .i32⟩
  | 44 => ⟨S2097152x1, .f32⟩
  | 45 => ⟨S_, .f32⟩
  | 46 => ⟨S2097152x1, .f32⟩
  | 47 => ⟨S2097152x1, .f32⟩
  | 48 => ⟨S2097152x1, .i32⟩
  | 49 => ⟨S_, .i32⟩
  | 50 => ⟨S_, .i32⟩
  | 51 => ⟨S_, .i32⟩
  | 52 => ⟨S2097152x1, .i32⟩
  | 53 => ⟨S2097152x1, .i32⟩
  | 54 => ⟨S_, .i32⟩
  | 55 => ⟨S2097152x1, .i32⟩
  | 56 => ⟨S2097152x1, .i32⟩
  | 57 => ⟨S2097152x1, .f32⟩
  | 58 => ⟨S_, .f32⟩
  | 59 => ⟨S2097152x1, .f32⟩
  | 60 => ⟨S2097152x1, .f32⟩
  | 61 => ⟨S_, .f32⟩
  | 62 => ⟨S2097152x1, .f32⟩
  | 63 => ⟨S2097152x1, .f32⟩
  | 64 => ⟨S2097152x1, .f32⟩
  | 65 => ⟨S_, .f32⟩
  | 66 => ⟨S2097152x1, .f32⟩
  | 67 => ⟨S2097152x1, .f32⟩
  | 68 => ⟨S2097152x1, .f32⟩
  | 69 => ⟨S_, .f32⟩
  | 70 => ⟨S2097152x1, .f32⟩
  | 71 => ⟨S2097152x1, .f32⟩
  | 72 => ⟨S2097152x1, .f32⟩
  | 73 => ⟨S_, .f32⟩
  | 74 => ⟨S2097152x1, .f32⟩
  | 75 => ⟨S2097152x1, .f32⟩
  | 76 => ⟨S2097152x1, .f32⟩
  | 77 => ⟨S2097152x6, .f32⟩
  | 78 => ⟨S2097152x10, .f32⟩
  | 79 => ⟨S2097152x16, .f32⟩
  | 80 => ⟨S1x16, .f32⟩
  | 81 => ⟨S2097152x16, .f32⟩
  | 82 => ⟨S2097152x16, .f32⟩
  | 83 => ⟨S_, .f32⟩
  | 84 => ⟨S2097152x16, .f32⟩
  | 85 => ⟨S2097152x16, .f32⟩
  | 86 => ⟨S2097152x1, .f32⟩
  | 87 => ⟨S_, .f32⟩
  | 88 => ⟨S2097152x1, .f32⟩
  | 89 => ⟨S2097152x1, .f32⟩
  | 90 => ⟨S2097152x1, .f32⟩
  | 91 => ⟨S_, .f32⟩
  | 92 => ⟨S2097152x1, .f32⟩
  | 93 => ⟨S2097152x1, .f32⟩
  | 94 => ⟨S2097152x1, .f32⟩
  | 95 => ⟨S2097152x1, .f32⟩
  | 96 => ⟨S_, .f32⟩
  | 97 => ⟨S2097152x1, .f32⟩
  | 98 => ⟨S2097152x1, .f32⟩
  | 99 => ⟨S2097152x1, .f32⟩
  | 100 => ⟨S_, .f32⟩
  | 101 => ⟨S2097152x1, .f32⟩
  | 102 => ⟨S2097152x1, .f32⟩
  | 103 => ⟨S2097152x1, .f32⟩
  | 104 => ⟨S_, .f32⟩
  | 105 => ⟨S2097152x1, .f32⟩
  | 106 => ⟨S2097152x1, .f32⟩
  | 107 => ⟨S2097152x1, .f32⟩
  | 108 => ⟨S_, .f32⟩
  | 109 => ⟨S2097152x1, .f32⟩
  | 110 => ⟨S2097152x1, .f32⟩
  | 111 => ⟨S2097152x1, .f32⟩
  | 112 => ⟨S2097152x1, .f32⟩
  | 113 => ⟨S2097152x1, .f32⟩
  | 114 => ⟨S_, .f32⟩
  | 115 => ⟨S2097152x1, .f32⟩
  | 116 => ⟨S2097152x1, .f32⟩
  | 117 => ⟨S2097152x1, .f32⟩
  | 118 => ⟨S_, .f32⟩
  | 119 => ⟨S2097152x1, .f32⟩
  | 120 => ⟨S2097152x1, .f32⟩
  | 121 => ⟨S2097152x1, .f32⟩
  | 122 => ⟨S_, .f32⟩
  | 123 => ⟨S2097152x1, .f32⟩
  | 124 => ⟨S2097152x1, .f32⟩
  | 125 => ⟨S2097152x1, .f32⟩
  | 126 => ⟨S_, .f32⟩
  | 127 => ⟨S2097152x1, .f32⟩
  | _ => ⟨S2097152x2, .i32⟩

abbrev hbmTy0_1 (i : Nat) : BufTy := match i % 128 with
  | 0 => ⟨S2097152x1, .f32⟩
  | 1 => ⟨S2097152x1, .f32⟩
  | 2 => ⟨S2097152x12, .f32⟩
  | 3 => ⟨S2097152x16, .f32⟩
  | 4 => ⟨S1x16, .f32⟩
  | 5 => ⟨S2097152x16, .f32⟩
  | 6 => ⟨S2097152x16, .f32⟩
  | 7 => ⟨S_, .f32⟩
  | 8 => ⟨S2097152x16, .f32⟩
  | 9 => ⟨S2097152x16, .f32⟩
  | 10 => ⟨S2097152x1, .f32⟩
  | 11 => ⟨S_, .f32⟩
  | 12 => ⟨S2097152x1, .f32⟩
  | 13 => ⟨S2097152x1, .f32⟩
  | 14 => ⟨S2097152x1, .f32⟩
  | 15 => ⟨S2097152x1, .f32⟩
  | 16 => ⟨S_, .f32⟩
  | 17 => ⟨S2097152x1, .f32⟩
  | 18 => ⟨S2097152x1, .f32⟩
  | 19 => ⟨S2097152x1, .f32⟩
  | 20 => ⟨S_, .f32⟩
  | 21 => ⟨S2097152x1, .f32⟩
  | 22 => ⟨S2097152x1, .f32⟩
  | 23 => ⟨S2097152x1, .f32⟩
  | 24 => ⟨S_, .f32⟩
  | 25 => ⟨S2097152x1, .f32⟩
  | 26 => ⟨S2097152x1, .f32⟩
  | 27 => ⟨S2097152x1, .f32⟩
  | 28 => ⟨S_, .f32⟩
  | 29 => ⟨S2097152x1, .f32⟩
  | 30 => ⟨S2097152x1, .f32⟩
  | 31 => ⟨S2097152x1, .f32⟩
  | 32 => ⟨S2097152x6, .f32⟩
  | 33 => ⟨S2097152x16, .f32⟩
  | 34 => ⟨S1x16, .f32⟩
  | 35 => ⟨S2097152x16, .f32⟩
  | 36 => ⟨S2097152x16, .f32⟩
  | 37 => ⟨S_, .f32⟩
  | 38 => ⟨S2097152x16, .f32⟩
  | 39 => ⟨S2097152x16, .f32⟩
  | 40 => ⟨S2097152x48, .f32⟩
  | 41 => ⟨S2097152x128, .f32⟩
  | 42 => ⟨S1x128, .f32⟩
  | 43 => ⟨S2097152x128, .f32⟩
  | 44 => ⟨S2097152x128, .f32⟩
  | 45 => ⟨S2097152x64, .f32⟩
  | 46 => ⟨S2097152x64, .f32⟩
  | 47 => ⟨S2097152x64, .f32⟩
  | 48 => ⟨S1x64, .f32⟩
  | 49 => ⟨S2097152x64, .f32⟩
  | 50 => ⟨S2097152x64, .f32⟩
  | 51 => ⟨S2097152x64, .f32⟩
  | 52 => ⟨S2097152x64, .f32⟩
  | 53 => ⟨S_, .f32⟩
  | 54 => ⟨S2097152x64, .f32⟩
  | 55 => ⟨S2097152x64, .f32⟩
  | 56 => ⟨S2097152x64, .f32⟩
  | 57 => ⟨S_, .f32⟩
  | 58 => ⟨S2097152x64, .f32⟩
  | 59 => ⟨S2097152x64, .f32⟩
  | 60 => ⟨S2097152x64, .f32⟩
  | 61 => ⟨S2097152x64, .f32⟩
  | 62 => ⟨S2097152x64, .f32⟩
  | 63 => ⟨S1x64, .f32⟩
  | 64 => ⟨S2097152x64, .f32⟩
  | 65 => ⟨S2097152x64, .f32⟩
  | 66 => ⟨S_, .f32⟩
  | 67 => ⟨S2097152x64, .f32⟩
  | 68 => ⟨S2097152x64, .f32⟩
  | 69 => ⟨S2097152x64, .f32⟩
  | 70 => ⟨S_, .f32⟩
  | 71 => ⟨S2097152x64, .f32⟩
  | 72 => ⟨S2097152x64, .f32⟩
  | 73 => ⟨S2097152x64, .f32⟩
  | 74 => ⟨S2097152x64, .f32⟩
  | 75 => ⟨S2097152x4, .f32⟩
  | 76 => ⟨S1x4, .f32⟩
  | 77 => ⟨S2097152x4, .f32⟩
  | 78 => ⟨S2097152x4, .f32⟩
  | 79 => ⟨S2097152x4, .f32⟩
  | 80 => ⟨S2097152x4, .f32⟩
  | 81 => ⟨S_, .f32⟩
  | 82 => ⟨S2097152x4, .f32⟩
  | 83 => ⟨S2097152x4, .f32⟩
  | 84 => ⟨S_, .f32⟩
  | 85 => ⟨S2097152x4, .f32⟩
  | 86 => ⟨S2097152x4, .f32⟩
  | _ => ⟨S2097152x2, .i32⟩

abbrev hbmTy (i : Nat) : BufTy := match i / 128 with
  | 0 => hbmTy0_0 i
  | 1 => hbmTy0_1 i
  | _ => ⟨S2097152x2, .i32⟩

abbrev bufTy : (tb : Table) → Fin (tcTables nBuf tb) → BufTy
  | .hbm, ⟨i, _⟩ => hbmTy i
  | _, _ => ⟨S2097152x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_c_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v16 : Ref sig .tc := ⟨.hbm, 43, rfl⟩
abbrev main_v17 : Ref sig .tc := ⟨.hbm, 44, rfl⟩
abbrev main_cst : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_c_5 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v21 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_v24 : Ref sig .tc := ⟨.hbm, 60, rfl⟩
abbrev main_cst_7 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_8 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_9 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_10 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_call2_cst : Ref sig .tc := ⟨.hbm, 83, rfl⟩
abbrev main_call2_v0 : Ref sig .tc := ⟨.hbm, 84, rfl⟩
abbrev main_v43 : Ref sig .tc := ⟨.hbm, 85, rfl⟩
abbrev main_v44 : Ref sig .tc := ⟨.hbm, 86, rfl⟩
abbrev main_cst_11 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_12 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_13 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_14 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_15 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_16 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_17 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_18 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_cst_19 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_20 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_call3_cst : Ref sig .tc := ⟨.hbm, 135, rfl⟩
abbrev main_call3_v0 : Ref sig .tc := ⟨.hbm, 136, rfl⟩
abbrev main_v83 : Ref sig .tc := ⟨.hbm, 137, rfl⟩
abbrev main_v84 : Ref sig .tc := ⟨.hbm, 138, rfl⟩
abbrev main_cst_21 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_22 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_23 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_24 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_25 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_call4_cst : Ref sig .tc := ⟨.hbm, 165, rfl⟩
abbrev main_call4_v0 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_cst_26 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_cst_27 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_28 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_29 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_cst_30 : Ref sig .tc := ⟨.hbm, 209, rfl⟩
abbrev main_v144 : Ref sig .tc := ⟨.hbm, 210, rfl⟩
abbrev main_v145 : Ref sig .tc := ⟨.hbm, 211, rfl⟩
abbrev main_cst_31 : Ref sig .tc := ⟨.hbm, 212, rfl⟩
abbrev main_v146 : Ref sig .tc := ⟨.hbm, 213, rfl⟩
abbrev main_v147 : Ref sig .tc := ⟨.hbm, 214, rfl⟩

abbrev nD : Nat := 1
abbrev τ : Topo := Topo.v7x

variable {F : FTy → Type} [FloatOps F]
-- ==== Proof.KernelIdealBody.lean ====
module

public import proofs.«01_k».proof.Proof.Gen.KernelIdeal.Loops
public import proofs.«01_k».proof.Proof.Gen.KernelIdeal.Points
public import Idealize.ShloMosaic.Lib.Tactic
public import Idealize.ShloMosaic.Lib.Pointwise
public import Idealize.ShloMosaic.Lib.WritesUnit
public import Idealize.ShloMosaic.Lib.Tactic.Stretches
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- No loop of the program is bounded by a variant. -/
abbrev 𝒱₀ : Variants := Variants.none

local notation "𝕄" => MT nD τ sig Unit (Elt F) ℕ (UR sig nD τ) ℕ

/-- A word is a chunk's first row: a multiple of eight with eight rows of the table from it on. -/
def RowOK (v : BitVec 32) : Prop := 8 ∣ v.toNat ∧ v.toNat + 8 ≤ 32768

theorem off_inb {v : BitVec 32} (h : RowOK v) (a : Fin 2) : (![v.toNat, 0] : Fin 2 → ℕ) a + S8x128.size a ≤ S32768x128.size a := by
  have := h.2
  fin_cases a <;> simp [S8x128, S32768x128] <;> omega

/-- The side condition the body assumes of each word it reads says no more than that. -/
theorem chk1_of {v : BitVec 32} (h : RowOK v) : k0_chk1 v := ⟨h.1, off_inb h⟩
theorem chk2_of {v : BitVec 32} (h : RowOK v) : k0_chk2 v := ⟨h.1, off_inb h⟩
theorem chk3_of {v : BitVec 32} (h : RowOK v) : k0_chk3 v := ⟨h.1, off_inb h⟩
theorem chk4_of {v : BitVec 32} (h : RowOK v) : k0_chk4 v := ⟨h.1, off_inb h⟩
theorem chk5_of {v : BitVec 32} (h : RowOK v) : k0_chk5 v := ⟨h.1, off_inb h⟩
theorem chk6_of {v : BitVec 32} (h : RowOK v) : k0_chk6 v := ⟨h.1, off_inb h⟩
theorem chk7_of {v : BitVec 32} (h : RowOK v) : k0_chk7 v := ⟨h.1, off_inb h⟩
theorem chk8_of {v : BitVec 32} (h : RowOK v) : k0_chk8 v := ⟨h.1, off_inb h⟩

/-- The scratch row `p` the loop leaves: the row of the table the word `W1 p` starts a chunk at, turned by the word
    `W2 p` within the chunk of eight. -/
def gRow (W1 W2 : S1x1x4096.Idx → BitVec 32) (T : S32768x128.Idx → Elt F .f32) (j : S4096x128.Idx) : Elt F .f32 :=
  T (ix2 ⟨((W1 (ix3 0 0 (j 0))).toNat + ((j 0).val % 8 + 8 - (W2 (ix3 0 0 (j 0))).toNat % 8) % 8) % 32768, Nat.mod_lt _ (by decide)⟩ (j 1))

/-- A stored row: row `u` of the chunk turned by `s`. -/
theorem turned_apply {u : ℕ} (hu : u < 8) (s : BitVec 32) (X : S8x128.Idx → Elt F .f32) (h : S8x128.Slices ![u, 0] S1x128) (x : S1x128.Idx) :
    shapeCast S1x128 (extractStridedSlice S1x128 ![u, 0] (dynamicRotate 0 s none (shapeCast S8x128 X shapeCasts_S8x128_S8x128) rotates_S8x128_d0) h) shapeCasts_S1x128_S1x128 x
      = X (ix2 ⟨(u + 8 - s.toNat % 8) % 8, Nat.mod_lt _ (by decide)⟩ (x 1)) := by
  have h0 : (x 0).val < 1 := (x 0).isLt
  rw [shapeCast_self, shapeCast_self]
  refine congrArg X (funext fun a => Fin.ext ?_)
  fin_cases a
  · show ((u + (x 0).val) + 8 - (s.toNat + 0) % 8) % 8 = (u + 8 - s.toNat % 8) % 8
    omega
  · show 0 + (x 1).val = (x 1).val
    omega

theorem word_read {sp : Space} (M : Memref sig .tc sp S1x1x4096 .i32) (f : M.view.ty.Contents (Elt F)) {off : Fin 3 → ℕ} {q : ℕ}
    (hq : q < 4096) (inb : ∀ a, off a + S1x1x1.size a ≤ S1x1x4096.size a) (he : off = ![0, 0, q]) (x : S1x1x1.Idx) :
    M.view.readAt (Elt F) (Rect.unit (s := S1x1x4096) off S1x1x1.size inb).toLoadRect f x = M.view.read (Elt F) f (ix3 0 0 ⟨q, hq⟩) := by
  subst he
  rw [View.readAt_apply]
  congr 1
  funext a
  apply Fin.ext
  have h0 : (x 0).val < 1 := (x 0).isLt
  have h1 : (x 1).val < 1 := (x 1).isLt
  have h2 : (x 2).val < 1 := (x 2).isLt
  fin_cases a <;> simp [LoadRect.idx, Rect.unit, Rect.toLoadRect] <;> omega

/-- Reading through the newest stored row, or under it. -/
theorem row_store {sp : Space} (M : Memref sig .tc sp S4096x128 .f32) (g : M.view.ty.Contents (Elt F)) {off : Fin 2 → ℕ} {o : ℕ} (he : off = ![o, 0])
    (inb : ∀ a, off a + S1x128.size a ≤ S4096x128.size a) (w : S1x128.Idx → Elt F .f32) (L : List (View.Piece (Elt F) S4096x128 .f32))
    (j : S4096x128.Idx) (r : Elt F .f32) (hin : (j 0).val = o → w (ix2 0 (j 1)) = r)
    (hout : (j 0).val ≠ o → M.view.read (Elt F) (M.view.writes (Elt F) g L) j = r) :
    M.view.read (Elt F) (M.view.writes (Elt F) g ((⟨Rect.unit (s := S4096x128) off S1x128.size inb, w⟩ : View.Piece (Elt F) S4096x128 .f32) :: L)) j = r := by
  by_cases h : (j 0).val = o
  · rw [← hin h]
    exact View.read_writes_cons_rows_of_mem M.view g inb w L j (ix2 0 (j 1)) he (by rw [h]; rfl) rfl
  · rw [← hout h]
    exact View.read_writes_cons_rows_of_not_mem M.view g inb w L j he (W := 1) rfl (by omega)

theorem chunk_read {sp : Space} (M : Memref sig .tc sp S32768x128 .f32) (f : M.view.ty.Contents (Elt F)) {off : Fin 2 → ℕ} {w : ℕ}
    (hw : w + 8 ≤ 32768) (inb : ∀ a, off a + S8x128.size a ≤ S32768x128.size a) (he : off = ![w, 0]) (x : S8x128.Idx) :
    M.view.readAt (Elt F) (Rect.unit (s := S32768x128) off S8x128.size inb).toLoadRect f x
      = M.view.read (Elt F) f (ix2 ⟨w + (x 0).val, by have : (x 0).val < 8 := (x 0).isLt; omega⟩ (x 1)) := by
  subst he
  rw [View.readAt_apply]
  congr 1
  funext a
  apply Fin.ext
  fin_cases a <;> simp [LoadRect.idx, Rect.unit, Rect.toLoadRect]

section Trip

variable (c : Dev nD) (i : grid0.Coords) (arg1 : Memref sig .tc .smem S1x1x4096 .i32) (harg1 : arg1.IsWhole) (arg2 : Memref sig .tc .smem S1x1x4096 .i32) (harg2 : arg2.IsWhole) (arg3 : Memref sig .tc .vmem S1x4096x1 .i32) (harg3 : arg3.IsWhole) (arg4 : Memref sig .tc .vmem S1x1x4096 .i32) (harg4 : arg4.IsWhole) (arg5 : Memref sig .tc .vmem S1x1x1x4096 .f32) (harg5 : arg5.IsWhole) (arg6 : Memref sig .tc .vmem S1x1x1x4096 .f32) (harg6 : arg6.IsWhole) (arg7 : Memref sig .tc .vmem S32768x128 .f32) (harg7 : arg7.IsWhole) (arg8 : Memref sig .tc .vmem S112x24 .f32) (harg8 : arg8.IsWhole) (arg9 : Memref sig .tc .vmem S112x1 .f32) (harg9 : arg9.IsWhole) (arg10 : Memref sig .tc .vmem S64x4 .f32) (harg10 : arg10.IsWhole) (arg11 : Memref sig .tc .vmem S64x48 .f32) (harg11 : arg11.IsWhole) (arg12 : Memref sig .tc .vmem S64x48 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S4x64 .f32) (harg17 : arg17.IsWhole) (arg18 : Memref sig .tc .vmem S4x1 .f32) (harg18 : arg18.IsWhole) (arg19 : Memref sig .tc .vmem S4x4096 .f32) (harg19 : arg19.IsWhole) (arg20 : Memref sig .tc .vmem S4096x128 .f32) (harg20 : arg20.IsWhole)

/-- A buffer a memref names, whole, at its contents. -/
abbrev own {sp : Space} {s : Shape} {e : EltTy} (M : Memref sig .tc sp s e) (f : Buf (Elt F) (M.view.loc (c : Thread nD τ))) : sProp 𝕄 :=
  M.view.loc (c : Thread nD τ) ↦[M.view.set]{fullShare} f

/-- What one trip touches: the two word tables, the table of features, the scratch. -/
abbrev Trip (f1 : Buf (Elt F) (arg1.view.loc (c : Thread nD τ))) (f2 : Buf (Elt F) (arg2.view.loc (c : Thread nD τ)))
    (f7 : Buf (Elt F) (arg7.view.loc (c : Thread nD τ))) (g : Buf (Elt F) (arg20.view.loc (c : Thread nD τ))) : sProp 𝕄 :=
  iprop(own c arg1 f1 ∗ own c arg2 f2 ∗ own c arg7 f7 ∗ own c arg20 g)

variable (f1 : Buf (Elt F) (arg1.view.loc (c : Thread nD τ))) (f2 : Buf (Elt F) (arg2.view.loc (c : Thread nD τ)))
    (f7 : Buf (Elt F) (arg7.view.loc (c : Thread nD τ)))

/-- Row `j` of the scratch, from what the two word tables and the table of features hold. -/
abbrev gAt (j : S4096x128.Idx) : Elt F .f32 :=
  gRow (arg1.view.read (Elt F) f1) (arg2.view.read (Elt F) f2) (arg7.view.read (Elt F) f7) j

/-- What one pass stores: the row the scratch is to hold there. -/
theorem stored (h1 : ∀ x, RowOK (arg1.view.read (Elt F) f1 x)) {u : ℕ} (hu : u < 8) (hs : S8x128.Slices ![u, 0] S1x128)
    {o1 o2 : Fin 3 → ℕ} (i1 : ∀ a, o1 a + S1x1x1.size a ≤ S1x1x4096.size a) (i2 : ∀ a, o2 a + S1x1x1.size a ≤ S1x1x4096.size a)
    (x1 x2 : S1x1x1.Idx) {q : ℕ} (e1 : o1 = ![0, 0, q]) (e2 : o2 = ![0, 0, q])
    (iw : ∀ a, (![(arg1.view.readAt (Elt F) (Rect.unit (s := S1x1x4096) o1 S1x1x1.size i1).toLoadRect f1 x1 : BitVec 32).toNat, 0] : Fin 2 → ℕ) a + S8x128.size a ≤ S32768x128.size a)
    (j : S4096x128.Idx) (hj : (j 0).val = q) (hq : q % 8 = u) :
    shapeCast S1x128 (extractStridedSlice S1x128 ![u, 0] (dynamicRotate 0 (arg2.view.readAt (Elt F) (Rect.unit (s := S1x1x4096) o2 S1x1x1.size i2).toLoadRect f2 x2) none
      (shapeCast S8x128 (arg7.view.readAt (Elt F) (Rect.unit (s := S32768x128) (![(arg1.view.readAt (Elt F) (Rect.unit (s := S1x1x4096) o1 S1x1x1.size i1).toLoadRect f1 x1 : BitVec 32).toNat, 0] : Fin 2 → ℕ) S8x128.size iw).toLoadRect f7) shapeCasts_S8x128_S8x128)
      rotates_S8x128_d0) hs) shapeCasts_S1x128_S1x128 (ix2 0 (j 1)) = gAt c arg1 arg2 arg7 f1 f2 f7 j := by
  have hj0 : (j 0).val < 4096 := (j 0).isLt
  have hq4 : q < 4096 := by omega
  have ej : (⟨q, hq4⟩ : Fin 4096) = j 0 := Fin.ext hj.symm
  have hw := h1 (ix3 0 0 (j 0))
  have r1 : arg1.view.readAt (Elt F) (Rect.unit (s := S1x1x4096) o1 S1x1x1.size i1).toLoadRect f1 x1 = arg1.view.read (Elt F) f1 (ix3 0 0 (j 0)) := by
    rw [word_read arg1 f1 hq4 i1 e1, ej]
  have r2 : arg2.view.readAt (Elt F) (Rect.unit (s := S1x1x4096) o2 S1x1x1.size i2).toLoadRect f2 x2 = arg2.view.read (Elt F) f2 (ix3 0 0 (j 0)) := by
    rw [word_read arg2 f2 hq4 i2 e2, ej]
  rw [turned_apply hu, chunk_read arg7 f7 hw.2 iw (by rw [r1])]
  unfold gAt gRow
  rw [r2]
  congr 1
  refine (ix2_inj _ _ _ _).mpr ⟨Fin.ext ?_, rfl⟩
  have h2 := hw.2
  show (arg1.view.read (Elt F) f1 (ix3 0 0 (j 0)) : BitVec 32).toNat + (u + 8 - (arg2.view.read (Elt F) f2 (ix3 0 0 (j 0)) : BitVec 32).toNat % 8) % 8
    = ((arg1.view.read (Elt F) f1 (ix3 0 0 (j 0)) : BitVec 32).toNat + ((j 0).val % 8 + 8 - (arg2.view.read (Elt F) f2 (ix3 0 0 (j 0)) : BitVec 32).toNat % 8) % 8) % 32768
  rw [hj, hq]
  omega

theorem trip_spec (h1 : ∀ x, RowOK (arg1.view.read (Elt F) f1 x)) (k : Fin k0_t1_loop.trips) (g : Buf (Elt F) (arg20.view.loc (c : Thread nD τ)))
    (hg : ∀ j : S4096x128.Idx, (j 0).val < 8 * k.val → arg20.view.read (Elt F) g j = gAt c arg1 arg2 arg7 f1 f2 f7 j) :
    Trip c arg1 arg2 arg7 arg20 f1 f2 f7 g ⊢ wp Idealize.ShloMosaic.frame (wpE (defs₀ (F := F)) 𝒱₀ (c : Thread nD τ) none) Set.univ
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k ())
      (fun _ => iprop(∃ g', Trip c arg1 arg2 arg7 arg20 f1 f2 f7 g'
        ∗ ⌜∀ j : S4096x128.Idx, (j 0).val < 8 * (k.val + 1) → arg20.view.read (Elt F) g' j = gAt c arg1 arg2 arg7 f1 f2 f7 j⌝)) := by
  unfold k0_t1_body
  iintro ⟨H1, H2, H7, H20⟩
  sl_exec_parts (disch := first | exact chk1_of (h1 _) | exact chk2_of (h1 _) | exact chk3_of (h1 _) | exact chk4_of (h1 _) | exact chk5_of (h1 _) | exact chk6_of (h1 _) | exact chk7_of (h1 _) | exact chk8_of (h1 _))
  sl_step
  iexists _
  isplitl [H1 H2 H7 H20]
  · isplitl [H1]; · iexact H1
    isplitl [H2]; · iexact H2
    isplitl [H7]; · iexact H7
    iexact H20
  ipureintro
  intro j hj
  have hk : k.val < 512 := Nat.lt_of_lt_of_le k.isLt k0_t1_abs.2.1
  sl_open_run
  refine row_store arg20 g (k0_off25_eq k) _ _ _ j _
    (fun h => stored c arg1 arg2 arg7 f1 f2 f7 h1 (u := 7) (by decide) _ _ _ _ _ (k0_off20_eq k 1) (k0_off23_eq k) _ j h (by omega)) fun n7 => ?_
  refine row_store arg20 g (k0_off22_eq k) _ _ _ j _
    (fun h => stored c arg1 arg2 arg7 f1 f2 f7 h1 (u := 6) (by decide) _ _ _ _ _ (k0_off17_eq k 1) (k0_off20_eq k 0) _ j h (by omega)) fun n6 => ?_
  refine row_store arg20 g (k0_off19_eq k) _ _ _ j _
    (fun h => stored c arg1 arg2 arg7 f1 f2 f7 h1 (u := 5) (by decide) _ _ _ _ _ (k0_off14_eq k 1) (k0_off17_eq k 0) _ j h (by omega)) fun n5 => ?_
  refine row_store arg20 g (k0_off16_eq k) _ _ _ j _
    (fun h => stored c arg1 arg2 arg7 f1 f2 f7 h1 (u := 4) (by decide) _ _ _ _ _ (k0_off11_eq k 1) (k0_off14_eq k 0) _ j h (by omega)) fun n4 => ?_
  refine row_store arg20 g (k0_off13_eq k) _ _ _ j _
    (fun h => stored c arg1 arg2 arg7 f1 f2 f7 h1 (u := 3) (by decide) _ _ _ _ _ (k0_off8_eq k 1) (k0_off11_eq k 0) _ j h (by omega)) fun n3 => ?_
  refine row_store arg20 g (k0_off10_eq k) _ _ _ j _
    (fun h => stored c arg1 arg2 arg7 f1 f2 f7 h1 (u := 2) (by decide) _ _ _ _ _ (k0_off5_eq k 1) (k0_off8_eq k 0) _ j h (by omega)) fun n2 => ?_
  refine row_store arg20 g (k0_off7_eq k) _ _ _ j _
    (fun h => stored c arg1 arg2 arg7 f1 f2 f7 h1 (u := 1) (by decide) _ _ _ _ _ (k0_off2_eq k 1) (k0_off5_eq k 0) _ j h (by omega)) fun n1 => ?_
  refine row_store arg20 g (k0_off4_eq k) _ _ _ j _
    (fun h => stored c arg1 arg2 arg7 f1 f2 f7 h1 (u := 0) (by decide) _ _ _ _ _ (k0_off1_eq k) (k0_off2_eq k 0) _ j h (by omega)) fun n0 => ?_
  exact hg j (by omega)

/-- The loop's invariant before trip `k`: the words start chunks, what the trips read is as it was, and the scratch holds its
    first `8 k` rows. -/
abbrev gInv (k : ℕ) : sProp 𝕄 :=
  iprop(⌜∀ x, RowOK (arg1.view.read (Elt F) f1 x)⌝ ∗ own c arg1 f1 ∗ own c arg2 f2 ∗ own c arg7 f7
    ∗ ∃ g, own c arg20 g ∗ ⌜∀ j : S4096x128.Idx, (j 0).val < 8 * k → arg20.view.read (Elt F) g j = gAt c arg1 arg2 arg7 f1 f2 f7 j⌝)

set_option warn.classDefReducibility false in
/-- The gathering loop's invariant, as the run looks for it. -/
@[sl_loop] def gLoop : LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 where
  inv k _ := gInv c arg1 arg2 arg7 arg20 f1 f2 f7 k
  step k _ := by
    iintro ⟨%h1, H1, H2, H7, %g, H20, %hg⟩
    iapply (wp_wand_r Idealize.ShloMosaic.frame (wpE (defs₀ (F := F)) 𝒱₀ (c : Thread nD τ) none) Set.univ)
    isplitl [H1 H2 H7 H20]
    · iapply (trip_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f1 f2 f7 h1 k g hg)
      isplitl [H1]; · iexact H1
      isplitl [H2]; · iexact H2
      isplitl [H7]; · iexact H7
      iexact H20
    · iintro %_ ⟨%g', ⟨H1, H2, H7, H20⟩, %hg'⟩
      isplitr; · ipureintro; exact h1
      isplitl [H1]; · iexact H1
      isplitl [H2]; · iexact H2
      isplitl [H7]; · iexact H7
      iexists g'
      isplitl [H20]; · iexact H20
      ipureintro; exact hg'

end Trip

section Block

/-- What the body leaves in the output block, from what its eighteen operands' blocks hold: the printed values of the stretches
    after the gathering loop, the scratch at the rows the loop leaves. -/
def blockOut (X1 : S1x1x4096.Idx → Elt F .i32) (X2 : S1x1x4096.Idx → Elt F .i32) (X3 : S1x4096x1.Idx → Elt F .i32) (X4 : S1x1x4096.Idx → Elt F .i32) (X5 : S1x1x1x4096.Idx → Elt F .f32) (X6 : S1x1x1x4096.Idx → Elt F .f32) (X7 : S32768x128.Idx → Elt F .f32) (X8 : S112x24.Idx → Elt F .f32) (X9 : S112x1.Idx → Elt F .f32) (X10 : S64x4.Idx → Elt F .f32) (X11 : S64x48.Idx → Elt F .f32) (X12 : S64x48.Idx → Elt F .f32) (X13 : S64x1.Idx → Elt F .f32) (X14 : S64x1.Idx → Elt F .f32) (X15 : S64x64.Idx → Elt F .f32) (X16 : S64x1.Idx → Elt F .f32) (X17 : S4x64.Idx → Elt F .f32) (X18 : S4x1.Idx → Elt F .f32) : S4x4096.Idx → Elt F .f32 :=
  k0_pay38
    (k0_pay34 (k0_pay9 X3 (gRow X1 X2 X7)) (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := F)) X8 X9 X10)
    (k0_pay36 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := F)) X8 X9 X11 X13)
    (k0_pay37 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := F)) X8 X9 X12)
    X14 X15 X16 X17 X18

end Block

section Body

variable (c : Dev nD) (i : grid0.Coords) (arg1 : Memref sig .tc .smem S1x1x4096 .i32) (harg1 : arg1.IsWhole) (arg2 : Memref sig .tc .smem S1x1x4096 .i32) (harg2 : arg2.IsWhole) (arg3 : Memref sig .tc .vmem S1x4096x1 .i32) (harg3 : arg3.IsWhole) (arg4 : Memref sig .tc .vmem S1x1x4096 .i32) (harg4 : arg4.IsWhole) (arg5 : Memref sig .tc .vmem S1x1x1x4096 .f32) (harg5 : arg5.IsWhole) (arg6 : Memref sig .tc .vmem S1x1x1x4096 .f32) (harg6 : arg6.IsWhole) (arg7 : Memref sig .tc .vmem S32768x128 .f32) (harg7 : arg7.IsWhole) (arg8 : Memref sig .tc .vmem S112x24 .f32) (harg8 : arg8.IsWhole) (arg9 : Memref sig .tc .vmem S112x1 .f32) (harg9 : arg9.IsWhole) (arg10 : Memref sig .tc .vmem S64x4 .f32) (harg10 : arg10.IsWhole) (arg11 : Memref sig .tc .vmem S64x48 .f32) (harg11 : arg11.IsWhole) (arg12 : Memref sig .tc .vmem S64x48 .f32) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S4x64 .f32) (harg17 : arg17.IsWhole) (arg18 : Memref sig .tc .vmem S4x1 .f32) (harg18 : arg18.IsWhole) (arg19 : Memref sig .tc .vmem S4x4096 .f32) (harg19 : arg19.IsWhole) (arg20 : Memref sig .tc .vmem S4096x128 .f32) (harg20 : arg20.IsWhole)

/-- THE BODY at one point: from its operands' blocks it leaves them as they are, the output block at `blockOut`, and the scratch
    at anything. -/
theorem body_spec (X1 : S1x1x4096.Idx → Elt F .i32) (X2 : S1x1x4096.Idx → Elt F .i32) (X3 : S1x4096x1.Idx → Elt F .i32) (X4 : S1x1x4096.Idx → Elt F .i32) (X5 : S1x1x1x4096.Idx → Elt F .f32) (X6 : S1x1x1x4096.Idx → Elt F .f32) (X7 : S32768x128.Idx → Elt F .f32) (X8 : S112x24.Idx → Elt F .f32) (X9 : S112x1.Idx → Elt F .f32) (X10 : S64x4.Idx → Elt F .f32) (X11 : S64x48.Idx → Elt F .f32) (X12 : S64x48.Idx → Elt F .f32) (X13 : S64x1.Idx → Elt F .f32) (X14 : S64x1.Idx → Elt F .f32) (X15 : S64x64.Idx → Elt F .f32) (X16 : S64x1.Idx → Elt F .f32) (X17 : S4x64.Idx → Elt F .f32) (X18 : S4x1.Idx → Elt F .f32) (h1 : ∀ x, RowOK (X1 x)) (f20 : Buf (Elt F) (arg20.view.loc (c : Thread nD τ))) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ (∃ X, owns (c : Thread nD τ) arg19 fullShare X) ∗ own c arg20 f20) ⊢ wp Idealize.ShloMosaic.frame (wpE (defs₀ (F := F)) 𝒱₀ (c : Thread nD τ) none) Set.univ
      (cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
      (fun _ => iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare (blockOut X1 X2 X3 X4 X5 X6 X7 X8 X9 X10 X11 X12 X13 X14 X15 X16 X17 X18) ∗ ∃ g, own c arg20 g)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%X19, %f19, -, H19⟩, H20⟩
  subst e1 e2 e3 e4 e5 e6 e7 e8 e9 e10 e11 e12 e13 e14 e15 e16 e17 e18
  sl_unfold [cc0__body]
  sl_exec_parts
  sl_step
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  isplitl [H15]; · iexists f15; isplitr; (· ipureintro; rfl); iexact H15
  isplitl [H16]; · iexists f16; isplitr; (· ipureintro; rfl); iexact H16
  isplitl [H17]; · iexists f17; isplitr; (· ipureintro; rfl); iexact H17
  isplitl [H18]; · iexists f18; isplitr; (· ipureintro; rfl); iexact H18
  isplitl [H19]
  · iexists _
    isplitr; swap; (· iexact H19)
    ipureintro
    have hg : arg20.view.read (Elt F) gL0 = gRow (arg1.view.read (Elt F) f1) (arg2.view.read (Elt F) f2) (arg7.view.read (Elt F) f7) :=
      funext fun j => hL5 j (Nat.lt_of_lt_of_eq (j 0).isLt (by decide))
    rw [View.read_writes_full]
    unfold blockOut
    sl_open_run
    rw [View.readAt_full arg3.view, View.readAt_full arg4.view, View.readAt_full arg5.view, View.readAt_full arg6.view, View.readAt_full arg8.view, View.readAt_full arg9.view, View.readAt_full arg10.view, View.readAt_full arg11.view, View.readAt_full arg12.view, View.readAt_full arg13.view, View.readAt_full arg14.view, View.readAt_full arg15.view, View.readAt_full arg16.view, View.readAt_full arg17.view, View.readAt_full arg18.view, View.readAt_full arg20.view, hg]
  iexists gL0; iexact H20

end Body
end Cert.Proof.KernelIdeal
end
-- ==== Proof.KernelIdealHost.lean ====
/-
  The host lines around the kernel's region: the program is those before it, the region, and the transpose after it; none of them
  writes an argument.
-/
module

public import proofs.«01_k».proof.Proof.KernelIdealBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What the buffers of core `c` hold when the region is entered. -/
abbrev V0 (c : Dev nD) : Valuation τ sig (Elt F) := StableHlo.after (List.flatten [hostOps0]) (fun b => m (c, b))
/-- The same, at one of the core's references. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is its host lines, the region, and the one line after it. -/
theorem hmain : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  obtain rfl := List.mem_singleton.mp hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop

/-- The line after the region writes the result alone. -/
theorem tail_writes (b : Ref sig .tc) (hb : b ≠ main_v0) : ∀ op ∈ (hostOps1 : List (HloOp τ sig (Elt F))), Proc.devRef .tc b ∉ op.writes := by
  intro op hop
  simp only [hostOps1, List.mem_cons, List.mem_nil_iff, or_false] at hop
  subst hop
  simp only [StableHlo.unary_writes, Finset.mem_singleton]
  exact StableHlo.devRef_ne_of_ne hb

theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact tail_writes _ ((by decide : ∀ w, Pipeline.arrRef spec0 w ≠ main_v0) w) op hop

/-- The arguments of the program. -/
def args : List (Ref sig .tc) := [main_arg0, main_arg1, main_arg2, main_arg3, main_arg4, main_arg5, main_arg6, main_arg7, main_arg8, main_arg9, main_arg10, main_arg11, main_arg12, main_arg13, main_arg14, main_arg15, main_arg16]

set_option maxHeartbeats 3200000 in
/-- No host line before the region writes an argument. -/
theorem host_writes : ∀ b ∈ args, (hostOps0 : List (HloOp τ sig (Elt F))).Forall fun op => Proc.devRef .tc b ∉ op.writes := by
  intro b hb
  simp only [hostOps0, List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne ((by decide : ∀ b ∈ args, b ≠ _) b hb)

/-- So the region finds an argument as launched. -/
theorem V_arg {b : Ref sig .tc} (hb : b ∈ args) (c : Dev nD) : V m c b = m ((c : Thread nD τ).loc b) :=
  StableHlo.after_of_forall_not_mem (b := Proc.devRef .tc b) _ _ (List.forall_iff_forall_mem.mp (by
    simp only [List.flatten_cons, List.flatten_nil, List.append_nil]; exact host_writes b hb))

/-- And the whole run leaves it so. -/
theorem tail_arg {b : Ref sig .tc} (hb : b ∈ args) (dats : (p : Fin _) → (c : Dev nD) → Dat τ (Elt F) Unit ℕ (UR sig nD τ) ℕ (cfgs p) c)
    (c : Dev nD) : Pipeline.afterTail₀ cfgs dats 0 (V0 m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact tail_writes b ((by decide : ∀ b ∈ args, b ≠ main_v0) b hb)),
    Pipeline.withArrays_of_ne _ c (V0 m c) _ b (by exact (by decide : ∀ b ∈ args, ∀ w, Pipeline.arrRef spec0 w ≠ b) b hb)]
  exact V_arg m hb c

end Cert.Proof.KernelIdeal
end
-- ==== Proof.KernelIdealLaunch.lean ====
/-
  The kernel's launch: the host lines before the region leave every argument as it was, each window's block at a point is read off
  the array the host lines left, and the run of the region (and of the transpose after it) leaves the arguments unchanged, every
  counter at zero, and the result array at the transpose of the blocks the body stores.
-/
module

public import proofs.«01_k».proof.Proof.KernelIdealHost
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the body stores at point `t`. -/
def oblk (c : Dev nD) (t : Fin cfg0.N) : S4x4096.Idx → Elt F .f32 :=
  blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The region's proof data: the arrays as the host lines leave them, each input's block kept, the output's block the body's. -/
def dats (_p : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => oblk m c t
    | ⟨_ + 19, h⟩ => absurd h (Nat.not_lt.2 (Nat.le_add_left _ _))
  Φ _ := Pipeline.ΦA spec0 c
  q w := Pipeline.shareOf spec0 w
  owed _ := 0

/-- The proof data's arrays. -/
theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = oblk m c t := by dsimp only [dats]

/-! An input's buffer holds its block, at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)

/-! ## The body at a point -/

theorem own_whole (c : Dev nD) (b : Ref sig .tc) (f : Buf (Elt F) ((c : Thread nD τ).loc b)) :
    (own c (Memref.whole b) f : sProp 𝕄) = ((c : Thread nD τ).loc b ↦{fullShare} f) := by
  unfold own
  simp only [Memref.view_whole, View.set_whole]

set_option maxHeartbeats 1600000 in
/-- THE BODY OBLIGATION, where the words of the first window start chunks of the table. -/
theorem obligation (c : Dev nD) (hrow : ∀ t x, RowOK (iblk m c 0 t x)) : BodyObligation (dats m 0 c) defs₀ 𝒱₀ () Set.univ := fun t => by
  rw [bigSep_W0, bigSep_W0]
  rw [show (dats m 0 c).Φ t.castSucc = Pipeline.ΦA spec0 c by dsimp only [dats], show (dats m 0 c).Φ t.succ = Pipeline.ΦA spec0 c by dsimp only [dats],
    show (dats m 0 c).owesAt () t.succ = (dats m 0 c).owesAt () t.castSucc from rfl]
  unfold Pipeline.ΦA
  rw [scopedRest0_eq]
  simp only [after0, after1, after2, after3, after4, after5, after6, after7, after8, after9, after10, after11, after12, after13, after14, after15, after16, after17, after18, before0, before1, before2, before3, before4, before5, before6, before7, before8, before9, before10, before11, before12, before13, before14, before15, before16, before17]
  iintro ⟨⟨⟨%f20, H20⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (wp_wand_r Idealize.ShloMosaic.frame (wpE (defs₀ (F := F)) 𝒱₀ (c : Thread nD τ) none) Set.univ)
  isplitl [H0 H1 H2 H3 H4 H5 H6 H7 H8 H9 H10 H11 H12 H13 H14 H15 H16 H17 H18 H20]
  · iapply (body_spec c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0) (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (hrow t) f20)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    rw [own_whole]
    iexact H20
  · iintro %_ ⟨H0, H1, H2, H3, H4, H5, H6, H7, H8, H9, H10, H11, H12, H13, H14, H15, H16, H17, H18, ⟨%g, H20⟩⟩
    isplitl [H20 Hp]
    · isplitl [H20]
      · iexists g
        rw [← own_whole]
        iexact H20
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-! ## The run -/

-- the launch theorem is stated over the pipelines' labels in general; its instance's types agree by unfolding
set_option backward.isDefEq.respectTransparency.types false in
/-- THE RUN, where the words of the first window start chunks of the table: it ends without fault, every counter at zero, the arrays
    at what the blocks written back leave and every other buffer as the line after the region leaves it. -/
theorem run (hrow : ∀ c t x, RowOK (iblk m c 0 t x)) :
    θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around_shared cfgs (dats m) 0 launch₀0 defs₀ 𝒱₀ m ρ main (fun c => (obligation m c (hrow c)).loose)
    (fun _ _ _ => by dsimp only [dats]) (fun _ _ => by dsimp only [dats]) (V0 m) [hostOps1] tail_sub tail_fresh tail_keeps (hmain m) (fun c w => A_eq m c w)
    (fun _ _ => by dsimp only [dats])
    _ (fun _ h => h)

/-- THE FRAME: the arguments end as launched, every counter at zero. -/
theorem frame (hrow : ∀ c t x, RowOK (iblk m c 0 t x)) :
    θ_run defs (onTc (τ := τ) (main (F := F))) ⟨m, fun _ => 0, ρ⟩ (fun r => (∀ b ∈ args, ∀ c : Dev nD,
      r.2.mem ((c.tc : Thread nD τ).loc b) = m ((c.tc : Thread nD τ).loc b)) ∧ r.2.sem = fun _ => 0) :=
  (θ_run defs _ _).mono (fun r h => ⟨fun b hb c => ((h.1 c).2 b (Pipeline.mem_restRefs_of b ((by decide : ∀ b ∈ args, b.isScoped = false) b hb)
    ((by decide : ∀ b ∈ args, ∀ w, Pipeline.arrRef spec0 w ≠ b) b hb))).trans (tail_arg m hb (dats m) c), h.2⟩) (run m ρ hrow)

end Cert.Proof.KernelIdeal
end
-- ==== Proof.KernelIdealPrefix.lean ====
/-
  What the host lines before the region leave, read at an index: the words that name a pixel's chunk of the feature table and the
  turn within it, the pixel's position, the colour/time coordinates, the feature table, the transposed weights; and each window's
  block read off them.
-/
module

public import proofs.«01_k».proof.Proof.KernelIdealLaunch
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- An argument array, as launched. -/
abbrev arg (c : Dev nD) (b : Ref sig .tc) : b.ty.Contents (Elt F) := m (c, Proc.tc.devRef b)

/-- The table position of pixel `n`, as a word: row times 1024 plus column. -/
def posWord (c : Dev nD) (n : Fin 2097152) : BitVec 32 :=
  IntOp.addi (arg m c main_arg0 (ix2 n 0)) (IntOp.muli (arg m c main_arg0 (ix2 n 1)) 1024#32)

theorem fold_pos (X : Fin 2 → BitVec 32) :
    Finset.fold IntOp.addi (0#32) (fun x => IntOp.muli (X x) (lit0 (S2.rowMajor (ix1 x)))) Finset.univ
      = IntOp.addi (X 0) (IntOp.muli (X 1) 1024#32) := by
  have h0 : lit0 (S2.rowMajor (ix1 0)) = 1#32 := by rfl
  have h1 : lit0 (S2.rowMajor (ix1 1)) = 1024#32 := by rfl
  rw [show (Finset.univ : Finset (Fin 2)) = {0, 1} by decide, Finset.fold_insert (by decide), Finset.fold_singleton, h0, h1]
  simp [IntOp.addi, IntOp.muli]

/-- The pixel that element `b` of block `i` is. -/
abbrev pix (i : Fin 512) (b : Fin 4096) : Fin 2097152 := ⟨i.val * 4096 + b.val, by omega⟩

/-! ## The buffers -/

set_option maxHeartbeats 1600000 in
theorem V_crow (c : Dev nD) (j : S512x1x4096.Idx) : V m c main_call0_v11 j = IntOp.shli .host (IntOp.shrsi .host (posWord m c (pix (j 0) (j 2))) 8#32) 3#32 := by
  unfold V V0
  simp only [List.flatten_cons, List.flatten_nil, List.append_nil]
  after_reads_at
  rw [fold_pos (fun x => m (c, Proc.tc.devRef main_arg0) (ix2 _ x))]
  rfl

set_option maxHeartbeats 1600000 in
theorem V_sh (c : Dev nD) (j : S512x1x4096.Idx) : V m c main_call0_v22 j = IntOp.andi (IntOp.subi (IntOp.andi (BitVec.ofNat 32 (j 2).val) 7#32) (IntOp.andi (IntOp.shrsi .host (posWord m c (pix (j 0) (j 2))) 5#32) 7#32)) 7#32 := by
  unfold V V0
  simp only [List.flatten_cons, List.flatten_nil, List.append_nil]
  after_reads_at
  rw [fold_pos (fun x => m (c, Proc.tc.devRef main_arg0) (ix2 _ x))]
  rfl

set_option maxHeartbeats 1600000 in
theorem V_pcol (c : Dev nD) (j : S512x4096x1.Idx) : V m c main_call0_v23 j = posWord m c (pix (j 0) (j 1)) := by
  unfold V V0
  simp only [List.flatten_cons, List.flatten_nil, List.append_nil]
  after_reads_at
  rw [fold_pos (fun x => m (c, Proc.tc.devRef main_arg0) (ix2 _ x))]
  rfl

set_option maxHeartbeats 1600000 in
theorem V_prow (c : Dev nD) (j : S512x1x4096.Idx) : V m c main_call0_v24 j = posWord m c (pix (j 0) (j 2)) := by
  unfold V V0
  simp only [List.flatten_cons, List.flatten_nil, List.append_nil]
  after_reads_at
  rw [fold_pos (fun x => m (c, Proc.tc.devRef main_arg0) (ix2 _ x))]
  rfl

set_option maxHeartbeats 1600000 in
theorem V_ct (c : Dev nD) (j : S2x512x1x4096.Idx) : V m c main_call0_v26 j = arg m c main_arg1 (ix2 (pix (j 1) (j 3)) (j 0)) := by
  unfold V V0
  simp only [List.flatten_cons, List.flatten_nil, List.append_nil]
  after_reads_at

set_option maxHeartbeats 1600000 in
theorem V_tab (c : Dev nD) (j : S32768x128.Idx) : V m c main_call0_v27 j = arg m c main_arg2 (ix3 ⟨(j 0).val / 32, by have : (j 0).val < 32768 := (j 0).isLt; omega⟩ ⟨(j 0).val % 32 * 32 + (j 1).val / 4, by have : (j 1).val < 128 := (j 1).isLt; omega⟩ ⟨(j 1).val % 4, by omega⟩) := by
  unfold V V0
  simp only [List.flatten_cons, List.flatten_nil, List.append_nil]
  after_reads_at

set_option maxHeartbeats 1600000 in
theorem V_w0lat (c : Dev nD) (j : S64x4.Idx) : V m c main_call0_v89 j = arg m c main_arg11 (ix2 ⟨(j 1).val, by have : (j 1).val < 4 := (j 1).isLt; omega⟩ (j 0)) := by
  unfold V V0
  simp only [List.flatten_cons, List.flatten_nil, List.append_nil]
  after_reads_at

set_option maxHeartbeats 1600000 in
theorem V_wf1 (c : Dev nD) (j : S64x48.Idx) : V m c main_call0_v91 j = arg m c main_arg9 (ix2 (j 1) ⟨(j 0).val, by have : (j 0).val < 64 := (j 0).isLt; omega⟩) := by
  unfold V V0
  simp only [List.flatten_cons, List.flatten_nil, List.append_nil]
  after_reads_at

set_option maxHeartbeats 1600000 in
theorem V_wf2 (c : Dev nD) (j : S64x48.Idx) : V m c main_call0_v93 j = arg m c main_arg9 (ix2 (j 1) ⟨64 + (j 0).val, by have : (j 0).val < 64 := (j 0).isLt; omega⟩) := by
  unfold V V0
  simp only [List.flatten_cons, List.flatten_nil, List.append_nil]
  after_reads_at

set_option maxHeartbeats 1600000 in
theorem V_bgam (c : Dev nD) (j : S64x1.Idx) : V m c main_call0_v95 j = arg m c main_arg10 (ix1 ⟨(j 0).val, by have : (j 0).val < 64 := (j 0).isLt; omega⟩) := by
  unfold V V0
  simp only [List.flatten_cons, List.flatten_nil, List.append_nil]
  after_reads_at

set_option maxHeartbeats 1600000 in
theorem V_bbet (c : Dev nD) (j : S64x1.Idx) : V m c main_call0_v97 j = arg m c main_arg10 (ix1 ⟨64 + (j 0).val, by have : (j 0).val < 64 := (j 0).isLt; omega⟩) := by
  unfold V V0
  simp only [List.flatten_cons, List.flatten_nil, List.append_nil]
  after_reads_at

set_option maxHeartbeats 1600000 in
theorem V_w1 (c : Dev nD) (j : S64x64.Idx) : V m c main_call0_v98 j = arg m c main_arg13 (ix2 (j 1) (j 0)) := by
  unfold V V0
  simp only [List.flatten_cons, List.flatten_nil, List.append_nil]
  after_reads_at

set_option maxHeartbeats 1600000 in
theorem V_b1 (c : Dev nD) (j : S64x1.Idx) : V m c main_call0_v99 j = arg m c main_arg14 (ix1 (j 0)) := by
  unfold V V0
  simp only [List.flatten_cons, List.flatten_nil, List.append_nil]
  after_reads_at

set_option maxHeartbeats 1600000 in
theorem V_w2 (c : Dev nD) (j : S4x64.Idx) : V m c main_call0_v100 j = arg m c main_arg15 (ix2 (j 1) (j 0)) := by
  unfold V V0
  simp only [List.flatten_cons, List.flatten_nil, List.append_nil]
  after_reads_at

set_option maxHeartbeats 1600000 in
theorem V_b2 (c : Dev nD) (j : S4x1.Idx) : V m c main_call0_v101 j = arg m c main_arg16 (ix1 (j 0)) := by
  unfold V V0
  simp only [List.flatten_cons, List.flatten_nil, List.append_nil]
  after_reads_at

end Cert.Proof.KernelIdeal
end
-- ==== Proof.KernelIdealBlocks.lean ====
/-
  Each window's block, read at an index of the array it is a block of.
-/
module

public import proofs.«01_k».proof.Proof.KernelIdealLaunch
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- A grid point's number. -/
abbrev pt (t : Fin cfg0.N) : Fin 512 := ⟨t.val, lt_of_lt_of_eq t.isLt N_0⟩

/-! Windows 0 to 5 take point `t`'s part of their arrays, the others the whole array. -/

theorem index0 : ∀ t : Fin grid0.N, win0_0.index t = ![t.val, 0, 0] := by decide +kernel

theorem blk0 (W : (b : Ref sig .tc) → b.ty.Contents (Elt F)) (t : Fin cfg0.N) (x : S1x1x4096.Idx) :
    ((cfg0.win 0).blk t).view.read (Elt F) (W (Pipeline.arrRef spec0 0)) x = W main_call0_v11 (ix3 (pt t) 0 (x 2)) := by
  blk_ext [index0]

theorem iblk0 (c : Dev nD) (t : Fin cfg0.N) (x : S1x1x4096.Idx) : iblk m c 0 t x = V m c main_call0_v11 (ix3 (pt t) 0 (x 2)) :=
  blk0 (V m c) t x

theorem index1 : ∀ t : Fin grid0.N, win0_1.index t = ![t.val, 0, 0] := by decide +kernel

theorem blk1 (W : (b : Ref sig .tc) → b.ty.Contents (Elt F)) (t : Fin cfg0.N) (x : S1x1x4096.Idx) :
    ((cfg0.win 1).blk t).view.read (Elt F) (W (Pipeline.arrRef spec0 1)) x = W main_call0_v22 (ix3 (pt t) 0 (x 2)) := by
  blk_ext [index1]

theorem iblk1 (c : Dev nD) (t : Fin cfg0.N) (x : S1x1x4096.Idx) : iblk m c 1 t x = V m c main_call0_v22 (ix3 (pt t) 0 (x 2)) :=
  blk1 (V m c) t x

theorem index2 : ∀ t : Fin grid0.N, win0_2.index t = ![t.val, 0, 0] := by decide +kernel

theorem blk2 (W : (b : Ref sig .tc) → b.ty.Contents (Elt F)) (t : Fin cfg0.N) (x : S1x4096x1.Idx) :
    ((cfg0.win 2).blk t).view.read (Elt F) (W (Pipeline.arrRef spec0 2)) x = W main_call0_v23 (ix3 (pt t) (x 1) 0) := by
  blk_ext [index2]

theorem iblk2 (c : Dev nD) (t : Fin cfg0.N) (x : S1x4096x1.Idx) : iblk m c 2 t x = V m c main_call0_v23 (ix3 (pt t) (x 1) 0) :=
  blk2 (V m c) t x

theorem index3 : ∀ t : Fin grid0.N, win0_3.index t = ![t.val, 0, 0] := by decide +kernel

theorem blk3 (W : (b : Ref sig .tc) → b.ty.Contents (Elt F)) (t : Fin cfg0.N) (x : S1x1x4096.Idx) :
    ((cfg0.win 3).blk t).view.read (Elt F) (W (Pipeline.arrRef spec0 3)) x = W main_call0_v24 (ix3 (pt t) 0 (x 2)) := by
  blk_ext [index3]

theorem iblk3 (c : Dev nD) (t : Fin cfg0.N) (x : S1x1x4096.Idx) : iblk m c 3 t x = V m c main_call0_v24 (ix3 (pt t) 0 (x 2)) :=
  blk3 (V m c) t x

theorem index4 : ∀ t : Fin grid0.N, win0_4.index t = ![0, t.val, 0, 0] := by decide +kernel

theorem blk4 (W : (b : Ref sig .tc) → b.ty.Contents (Elt F)) (t : Fin cfg0.N) (x : S1x1x1x4096.Idx) :
    ((cfg0.win 4).blk t).view.read (Elt F) (W (Pipeline.arrRef spec0 4)) x = W main_call0_v26 (ix4 0 (pt t) 0 (x 3)) := by
  blk_ext [index4]

theorem iblk4 (c : Dev nD) (t : Fin cfg0.N) (x : S1x1x1x4096.Idx) : iblk m c 4 t x = V m c main_call0_v26 (ix4 0 (pt t) 0 (x 3)) :=
  blk4 (V m c) t x

theorem index5 : ∀ t : Fin grid0.N, win0_5.index t = ![1, t.val, 0, 0] := by decide +kernel

theorem blk5 (W : (b : Ref sig .tc) → b.ty.Contents (Elt F)) (t : Fin cfg0.N) (x : S1x1x1x4096.Idx) :
    ((cfg0.win 5).blk t).view.read (Elt F) (W (Pipeline.arrRef spec0 5)) x = W main_call0_v26 (ix4 1 (pt t) 0 (x 3)) := by
  blk_ext [index5]

theorem iblk5 (c : Dev nD) (t : Fin cfg0.N) (x : S1x1x1x4096.Idx) : iblk m c 5 t x = V m c main_call0_v26 (ix4 1 (pt t) 0 (x 3)) :=
  blk5 (V m c) t x

theorem index6 : ∀ t : Fin grid0.N, win0_6.index t = ![0, 0] := by decide +kernel

theorem blk6 (W : (b : Ref sig .tc) → b.ty.Contents (Elt F)) (t : Fin cfg0.N) (x : S32768x128.Idx) :
    ((cfg0.win 6).blk t).view.read (Elt F) (W (Pipeline.arrRef spec0 6)) x = W main_call0_v27 (x) := by
  blk_ext [index6]

theorem iblk6 (c : Dev nD) (t : Fin cfg0.N) (x : S32768x128.Idx) : iblk m c 6 t x = V m c main_call0_v27 (x) :=
  blk6 (V m c) t x

theorem index7 : ∀ t : Fin grid0.N, win0_7.index t = ![0, 0] := by decide +kernel

theorem blk7 (W : (b : Ref sig .tc) → b.ty.Contents (Elt F)) (t : Fin cfg0.N) (x : S112x24.Idx) :
    ((cfg0.win 7).blk t).view.read (Elt F) (W (Pipeline.arrRef spec0 7)) x = W main_call0_v85 (x) := by
  blk_ext [index7]

theorem iblk7 (c : Dev nD) (t : Fin cfg0.N) (x : S112x24.Idx) : iblk m c 7 t x = V m c main_call0_v85 (x) :=
  blk7 (V m c) t x

theorem index8 : ∀ t : Fin grid0.N, win0_8.index t = ![0, 0] := by decide +kernel

theorem blk8 (W : (b : Ref sig .tc) → b.ty.Contents (Elt F)) (t : Fin cfg0.N) (x : S112x1.Idx) :
    ((cfg0.win 8).blk t).view.read (Elt F) (W (Pipeline.arrRef spec0 8)) x = W main_call0_v87 (x) := by
  blk_ext [index8]

theorem iblk8 (c : Dev nD) (t : Fin cfg0.N) (x : S112x1.Idx) : iblk m c 8 t x = V m c main_call0_v87 (x) :=
  blk8 (V m c) t x

theorem index9 : ∀ t : Fin grid0.N, win0_9.index t = ![0, 0] := by decide +kernel

theorem blk9 (W : (b : Ref sig .tc) → b.ty.Contents (Elt F)) (t : Fin cfg0.N) (x : S64x4.Idx) :
    ((cfg0.win 9).blk t).view.read (Elt F) (W (Pipeline.arrRef spec0 9)) x = W main_call0_v89 (x) := by
  blk_ext [index9]

theorem iblk9 (c : Dev nD) (t : Fin cfg0.N) (x : S64x4.Idx) : iblk m c 9 t x = V m c main_call0_v89 (x) :=
  blk9 (V m c) t x

theorem index10 : ∀ t : Fin grid0.N, win0_10.index t = ![0, 0] := by decide +kernel

theorem blk10 (W : (b : Ref sig .tc) → b.ty.Contents (Elt F)) (t : Fin cfg0.N) (x : S64x48.Idx) :
    ((cfg0.win 10).blk t).view.read (Elt F) (W (Pipeline.arrRef spec0 10)) x = W main_call0_v91 (x) := by
  blk_ext [index10]

theorem iblk10 (c : Dev nD) (t : Fin cfg0.N) (x : S64x48.Idx) : iblk m c 10 t x = V m c main_call0_v91 (x) :=
  blk10 (V m c) t x

theorem index11 : ∀ t : Fin grid0.N, win0_11.index t = ![0, 0] := by decide +kernel

theorem blk11 (W : (b : Ref sig .tc) → b.ty.Contents (Elt F)) (t : Fin cfg0.N) (x : S64x48.Idx) :
    ((cfg0.win 11).blk t).view.read (Elt F) (W (Pipeline.arrRef spec0 11)) x = W main_call0_v93 (x) := by
  blk_ext [index11]

theorem iblk11 (c : Dev nD) (t : Fin cfg0.N) (x : S64x48.Idx) : iblk m c 11 t x = V m c main_call0_v93 (x) :=
  blk11 (V m c) t x

theorem index12 : ∀ t : Fin grid0.N, win0_12.index t = ![0, 0] := by decide +kernel

theorem blk12 (W : (b : Ref sig .tc) → b.ty.Contents (Elt F)) (t : Fin cfg0.N) (x : S64x1.Idx) :
    ((cfg0.win 12).blk t).view.read (Elt F) (W (Pipeline.arrRef spec0 12)) x = W main_call0_v95 (x) := by
  blk_ext [index12]

theorem iblk12 (c : Dev nD) (t : Fin cfg0.N) (x : S64x1.Idx) : iblk m c 12 t x = V m c main_call0_v95 (x) :=
  blk12 (V m c) t x

theorem index13 : ∀ t : Fin grid0.N, win0_13.index t = ![0, 0] := by decide +kernel

theorem blk13 (W : (b : Ref sig .tc) → b.ty.Contents (Elt F)) (t : Fin cfg0.N) (x : S64x1.Idx) :
    ((cfg0.win 13).blk t).view.read (Elt F) (W (Pipeline.arrRef spec0 13)) x = W main_call0_v97 (x) := by
  blk_ext [index13]

theorem iblk13 (c : Dev nD) (t : Fin cfg0.N) (x : S64x1.Idx) : iblk m c 13 t x = V m c main_call0_v97 (x) :=
  blk13 (V m c) t x

theorem index14 : ∀ t : Fin grid0.N, win0_14.index t = ![0, 0] := by decide +kernel

theorem blk14 (W : (b : Ref sig .tc) → b.ty.Contents (Elt F)) (t : Fin cfg0.N) (x : S64x64.Idx) :
    ((cfg0.win 14).blk t).view.read (Elt F) (W (Pipeline.arrRef spec0 14)) x = W main_call0_v98 (x) := by
  blk_ext [index14]

theorem iblk14 (c : Dev nD) (t : Fin cfg0.N) (x : S64x64.Idx) : iblk m c 14 t x = V m c main_call0_v98 (x) :=
  blk14 (V m c) t x

theorem index15 : ∀ t : Fin grid0.N, win0_15.index t = ![0, 0] := by decide +kernel

theorem blk15 (W : (b : Ref sig .tc) → b.ty.Contents (Elt F)) (t : Fin cfg0.N) (x : S64x1.Idx) :
    ((cfg0.win 15).blk t).view.read (Elt F) (W (Pipeline.arrRef spec0 15)) x = W main_call0_v99 (x) := by
  blk_ext [index15]

theorem iblk15 (c : Dev nD) (t : Fin cfg0.N) (x : S64x1.Idx) : iblk m c 15 t x = V m c main_call0_v99 (x) :=
  blk15 (V m c) t x

theorem index16 : ∀ t : Fin grid0.N, win0_16.index t = ![0, 0] := by decide +kernel

theorem blk16 (W : (b : Ref sig .tc) → b.ty.Contents (Elt F)) (t : Fin cfg0.N) (x : S4x64.Idx) :
    ((cfg0.win 16).blk t).view.read (Elt F) (W (Pipeline.arrRef spec0 16)) x = W main_call0_v100 (x) := by
  blk_ext [index16]

theorem iblk16 (c : Dev nD) (t : Fin cfg0.N) (x : S4x64.Idx) : iblk m c 16 t x = V m c main_call0_v100 (x) :=
  blk16 (V m c) t x

theorem index17 : ∀ t : Fin grid0.N, win0_17.index t = ![0, 0] := by decide +kernel

theorem blk17 (W : (b : Ref sig .tc) → b.ty.Contents (Elt F)) (t : Fin cfg0.N) (x : S4x1.Idx) :
    ((cfg0.win 17).blk t).view.read (Elt F) (W (Pipeline.arrRef spec0 17)) x = W main_call0_v101 (x) := by
  blk_ext [index17]

theorem iblk17 (c : Dev nD) (t : Fin cfg0.N) (x : S4x1.Idx) : iblk m c 17 t x = V m c main_call0_v101 (x) :=
  blk17 (V m c) t x

end Cert.Proof.KernelIdeal
end
-- ==== Proof.KernelIdealRows.lean ====
/-
  The words that name a pixel's chunk of the feature table, under a range on the pixel's column and row: each names a whole chunk of
  eight rows inside the table. With the region's run, every argument is as it was.
-/
module

public import proofs.«01_k».proof.Proof.KernelIdealPrefix
public import proofs.«01_k».proof.Proof.KernelIdealBlocks

@[expose] public section

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- The pixel's column and row are within the table. -/
def InRange (c : Dev nD) : Prop := ∀ n k, (arg m c main_arg0 (ix2 n k) : BitVec 32).toNat < 1024

theorem posWord_toNat {c : Dev nD} (h : InRange m c) (n : Fin 2097152) :
    (posWord m c n).toNat = (arg m c main_arg0 (ix2 n 1) : BitVec 32).toNat * 1024 + (arg m c main_arg0 (ix2 n 0) : BitVec 32).toNat := by
  have h0 := h n 0
  have h1 := h n 1
  unfold posWord
  simp only [IntOp.addi, IntOp.muli, BitVec.toNat_add, BitVec.toNat_mul, BitVec.toNat_ofNat]
  omega

theorem posWord_lt {c : Dev nD} (h : InRange m c) (n : Fin 2097152) : (posWord m c n).toNat < 1048576 := by
  have h0 := h n 0
  have h1 := h n 1
  rw [posWord_toNat m h]
  omega

theorem shr_toNat (u : ArithUnit) {v : BitVec 32} (h : v.toNat < 1048576) {k : BitVec 32} (hk : k.toNat < 32) :
    (IntOp.shrsi u v k).toNat = v.toNat / 2 ^ k.toNat := by
  have hm : v.msb = false := by rw [BitVec.msb_eq_false_iff_two_mul_lt]; omega
  rw [IntOp.shrsi, if_pos hk, BitVec.sshiftRight', BitVec.sshiftRight_eq_of_msb_false hm, BitVec.toNat_ushiftRight,
    Nat.shiftRight_eq_div_pow]

theorem crow_toNat {c : Dev nD} (h : InRange m c) (j : S512x1x4096.Idx) :
    (V m c main_call0_v11 j : BitVec 32).toNat = (posWord m c (pix (j 0) (j 2))).toNat / 256 * 8 := by
  have hp := posWord_lt m h (pix (j 0) (j 2))
  rw [V_crow, IntOp.shli, if_pos (by decide)]
  simp only [BitVec.shiftLeft_eq', BitVec.toNat_shiftLeft]
  rw [shr_toNat .host hp (by decide), Nat.shiftLeft_eq]
  norm_num
  omega

/-- Every word of the first window starts a chunk of the table. -/
theorem rows_ok {c : Dev nD} (h : InRange m c) (t : Fin cfg0.N) (x : S1x1x4096.Idx) : RowOK (iblk m c 0 t x) := by
  rw [iblk0]
  have hc := crow_toNat m h (ix3 (pt t) 0 (x 2))
  have hp := posWord_lt m h (pix (pt t) (x 2))
  unfold RowOK
  rw [hc]
  change 8 ∣ (posWord m c (pix (pt t) (x 2))).toNat / 256 * 8 ∧ (posWord m c (pix (pt t) (x 2))).toNat / 256 * 8 + 8 ≤ 32768
  omega

end Cert.Proof.KernelIdeal
end
-- ==== Proof.Range.lean ====
/-
  What the preconditions say of the arguments: every pixel's column and row lie in [0, 1024), and, for the values, every time is finite.
-/
module

public import proofs.«01_k».proof.Proof.Gen.Pre_in_range
public import proofs.«01_k».proof.Pre_finite_time
public import Idealize.ShloMosaic.Lib.Pointwise
public import Idealize.ShloMosaic.PureOps.Ideal
public import Idealize.ShloMosaic.Lib.WordArith

@[expose] public section

noncomputable section

namespace Cert.Proof.Range

open Idealize.ShloMosaic Idealize.ShloMosaic.WordArith

theorem lt_of_bounds {v : BitVec 32} (h0 : (0#32).sle v = true) (h1 : v.slt 1024#32 = true) : v.toNat < 1024 := by
  simp only [BitVec.sle, BitVec.slt, decide_eq_true_eq] at h0 h1
  have hz : (0#32 : BitVec 32).toInt = 0 := by decide
  have ht : (1024#32 : BitVec 32).toInt = 1024 := by decide
  rw [hz, BitVec.toInt_eq_toNat_cond] at h0
  rw [ht, BitVec.toInt_eq_toNat_cond] at h1
  split at h0 <;> split at h1 <;> omega

theorem both : ∀ x y : BitVec 1, IntOp.andi x y = 1#1 → x = 1#1 ∧ y = 1#1 := by decide

theorem finite_of_abs {a : EReal} (h : ¬ (⊤ : EReal) ≤ max a (-a)) : a ≠ ⊤ ∧ a ≠ ⊥ := by
  constructor <;> rintro rfl <;> simp at h

theorem ints {F : FTy → Type} [FloatOps F] {a0 : IVec Pre_in_range.S2097152x2 32} {a1 a2 a3 a4 a5 a6 a7 a8 a9 a10 a11 a12 a13 a14 a15 a16}
    (h : Pre_in_range.fn (F := F) a0 a1 a2 a3 a4 a5 a6 a7 a8 a9 a10 a11 a12 a13 a14 a15 a16 = fun _ => 1#1) (i : Pre_in_range.S2097152x2.Idx) :
    (a0 i).toNat < 1024 := by
  have h := congrFun h i
  simp only [Pre_in_range.fn, andi, cmpi, broadcastInDim, constantI, IntOp.cmpi, andi_ofBool, ofBool_eq_one_iff, Bool.and_eq_true] at h
  exact lt_of_bounds h.1 h.2

/-- The shapes in the value claim's precondition fit. -/
theorem facts : Pre_finite_time.Facts where
  bcast_S_S2097152x2 := by decide
  slices_S2097152x2_S2097152x1_0_0 := by decide
  bcast_S_S2097152x1 := by decide
  bcast_S2097152x1_S2097152x2_0_1 := by decide

section Time
open Pre_finite_time
variable [Pre_finite_time.Facts] {a0 : IVec S2097152x2 32} {a1 : FVec Ideal S2097152x2 .f32} {a2 a3 a4 a5 a6 a7 a8 a9 a10 a11 a12 a13 a14 a15 a16}
  (h : fn (F := Ideal) a0 a1 a2 a3 a4 a5 a6 a7 a8 a9 a10 a11 a12 a13 a14 a15 a16 = fun _ => 1#1)
include h

theorem time_ints (i : S2097152x2.Idx) : (a0 i).toNat < 1024 := by
  have h := congrFun h i
  simp only [fn] at h
  have h := (both _ _ h).1
  simp only [andi, cmpi, broadcastInDim, constantI, IntOp.cmpi, andi_ofBool, ofBool_eq_one_iff, Bool.and_eq_true] at h
  exact lt_of_bounds h.1 h.2

theorem time_real (n : Fin 2097152) : ∃ t : ℝ, (a1 (ix2 n 0) : EReal) = t := by
  have h := congrFun h (ix2 n 0)
  simp only [fn] at h
  have h := (both _ _ h).2
  have htop : Ideal.ofBits .f32 0x7F800000#32 = ⊤ := by simp [Ideal.ofBits, Ideal.ieee]
  revert h
  pointwise
  intro h
  change BitVec.ofBool (decide (max (a1 (ix2 n 0) : EReal) (-(a1 (ix2 n 0) : EReal)) < Ideal.ofBits .f32 0x7F800000#32)) = 1#1 at h
  rw [htop, ofBool_eq_one_iff, decide_eq_true_eq] at h
  obtain ⟨h1, h2⟩ := finite_of_abs (not_le.2 h)
  exact ⟨_, (EReal.coe_toReal h1 h2).symm⟩
end Time

end Cert.Proof.Range
end
-- ==== Proof.Net.lean ====
/-
  The part of the network that both programs spell the same way: from the 48 conditioning features and the 64 hidden values of
  one pixel to its four outputs.  The features and the hidden values are what the two programs compute differently.
-/
module

public import Idealize.ShloMosaic.Lib.Pipeline.ValueKit
public import Idealize.ShloMosaic.PureOps.Ideal.Laws

@[expose] public section

noncomputable section

namespace Cert.Proof.Net

open Idealize.ShloMosaic

/-- The activation: half of `z` times one plus the error function of `z` over the root of two. -/
def gelu (z : EReal) : EReal := Ideal.ofBits .f32 0x3F000000#32 * z * (1 + Ideal.erf (z * Ideal.ofBits .f32 0x3F3504F3#32))

/-- The same activation written with the complementary error function. -/
theorem gelu_erfc (z : EReal) :
    Ideal.ofBits .f32 0x3F000000#32 * z * Ideal.erfc (-z * Ideal.ofBits .f32 0x3F3504F3#32) = gelu z := by
  rw [gelu, EReal.neg_mul, Ideal.erfc_neg]

/-- The modulated hidden value: the features give a scale and a shift of it. -/
def film (f : Fin 48 → EReal) (h : Fin 64 → EReal) (W : Fin 48 → Fin 128 → EReal) (B : Fin 128 → EReal) (j : Fin 64) : EReal :=
  (∑ k, f k * W k ⟨j.val, by omega⟩ + B ⟨j.val, by omega⟩) * h j + (∑ k, f k * W k ⟨64 + j.val, by omega⟩ + B ⟨64 + j.val, by omega⟩)

/-- One dense layer at one output. -/
def dense {n : ℕ} (x : Fin n → EReal) (w : Fin n → EReal) (b : EReal) : EReal := ∑ k, x k * w k + b

/-- The four outputs of a pixel. -/
def net (f : Fin 48 → EReal) (h : Fin 64 → EReal) (W9 : Fin 48 → Fin 128 → EReal) (B10 : Fin 128 → EReal)
    (W13 : Fin 64 → Fin 64 → EReal) (B14 : Fin 64 → EReal) (W15 : Fin 64 → Fin 4 → EReal) (B16 : Fin 4 → EReal) (q : Fin 4) : EReal :=
  Ideal.logistic (dense (fun k => gelu (dense (fun i => gelu (film f h W9 B10 i)) (fun i => W13 i k) (B14 k))) (fun k => W15 k q) (B16 q))

end Cert.Proof.Net
-- ==== Proof.KernelIdealValue.lean ====
/-
  The kernel's block at an index over the extended reals, as a formula in its operands' blocks.
-/
module

public import proofs.«01_k».proof.Proof.KernelIdealBody
public import proofs.«01_k».proof.Proof.Net

@[expose] public section

set_option maxRecDepth 16384

noncomputable section

namespace Cert.Proof.KernelIdeal

open Cert.KernelIdeal Cert.KernelIdeal.Gen Cert.Proof.Net
open Idealize.ShloMosaic Idealize.ShloMosaic.TcCoe

/-- Twice, as the kernel spells it. -/
abbrev two : EReal := Ideal.ofBits .f32 0x40000000#32
/-- Two pi, rounded. -/
abbrev tau : EReal := Ideal.ofBits .f32 0x40C90FDB#32

/-- The sines and cosines of one, two and three times an angle, from the sine `s` and the cosine `c` of the angle. -/
def sin2 (s c : EReal) : EReal := two * s * c
def cos2 (s : EReal) : EReal := 1 - two * s * s
def sin3 (s c : EReal) : EReal := s * cos2 s + c * sin2 s c
def cos3 (s c : EReal) : EReal := c * cos2 s - s * sin2 s c

/-- The stack of 24 features of one pixel at position `(x, y)`, time `t` and control value `u`. -/
def stack (x y t u : EReal) : Fin 24 → EReal :=
  let sx := Ideal.sin (x * tau); let cx := Ideal.cos (x * tau)
  let sy := Ideal.sin (y * tau); let cy := Ideal.cos (y * tau)
  let st := Ideal.sin (t * tau); let ct := Ideal.cos (t * tau)
  ![x, y, sx, cx, sin2 sx cx, cos2 sx, sin3 sx cx, cos3 sx cx, sy, cy, sin2 sy cy, cos2 sy, sin3 sy cy, cos3 sy cy,
    t, u, st, ct, sin2 st ct, cos2 st, sin3 st ct, cos3 st ct, 0, 0]

/-- A pixel's column and row, over 1024, from its number `p`. -/
def xOf (p : BitVec 32) : EReal := FloatOps.sitofp (F := Ideal) .f32 (IntOp.andi p 1023#32) * Ideal.ofBits .f32 0x3A800000#32
def yOf (p : BitVec 32) : EReal := FloatOps.sitofp (F := Ideal) .f32 (IntOp.shrsi .vector p 10#32) * Ideal.ofBits .f32 0x3A800000#32

section
variable (X4 : S1x1x4096.Idx → Elt Ideal .i32) (X5 X6 : S1x1x1x4096.Idx → Elt Ideal .f32)
  (X8 : S112x24.Idx → Elt Ideal .f32) (X9 : S112x1.Idx → Elt Ideal .f32)

/-- The first product's rows. -/
def headRow (r : Fin 112) (b : Fin 4096) : EReal :=
  ∑ k, X8 (ix2 r k) * stack (xOf (X4 (ix3 0 0 b))) (yOf (X4 (ix3 0 0 b))) (X5 (ix4 0 0 0 b)) (X6 (ix4 0 0 0 b)) k + X9 (ix2 r 0)

theorem head_at (r : Fin 112) (b : Fin 4096) :
    k0_pay33 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 (ix2 r b)
      = headRow X4 X5 X6 X8 X9 r b := by
  have e11 : k0_pay11 X4 (ix2 0 b) = xOf (X4 (ix3 0 0 b)) := by
    unfold k0_pay11 k0_pay10
    pointwise
    rfl
  have e12 : k0_pay12 X4 (ix2 0 b) = yOf (X4 (ix3 0 0 b)) := by
    unfold k0_pay12 k0_pay10
    pointwise
    rfl
  unfold headRow
  rw [← e11, ← e12]
  generalize k0_pay11 X4 = x, k0_pay12 X4 = y
  unfold k0_pay33 k0_pay32 k0_pay31 k0_pay30 k0_pay29 k0_pay28 k0_pay27 k0_pay26 k0_pay25 k0_pay24 k0_pay23 k0_pay22 k0_pay21 k0_pay20 k0_pay19 k0_pay18
    k0_pay17 k0_pay16 k0_pay15 k0_pay14 k0_pay13
  pointwise
  refine congrArg (· + _) (Finset.sum_congr rfl fun k _ => congrArg (_ * ·) ?_)
  fin_cases k
  all_goals rfl

/-- The 48 conditioning features and the 64 hidden values of pixel `b`, the latter from its four latent values `g`. -/
def featRow (b : Fin 4096) (k : Fin 48) : EReal := max (headRow X4 X5 X6 X8 X9 ⟨64 + k.val, by omega⟩ b) 0
def hiddenRow (X10 : S64x4.Idx → Elt Ideal .f32) (g : Fin 4 → EReal) (b : Fin 4096) (r : Fin 64) : EReal :=
  headRow X4 X5 X6 X8 X9 ⟨r.val, by omega⟩ b + ∑ k, X10 (ix2 r k) * g k

variable (X1 X2 : S1x1x4096.Idx → Elt Ideal .i32) (X3 : S1x4096x1.Idx → Elt Ideal .i32) (X7 : S32768x128.Idx → Elt Ideal .f32)
  (X10 : S64x4.Idx → Elt Ideal .f32) (X11 X12 : S64x48.Idx → Elt Ideal .f32) (X13 X14 : S64x1.Idx → Elt Ideal .f32)
  (X15 : S64x64.Idx → Elt Ideal .f32) (X16 : S64x1.Idx → Elt Ideal .f32) (X17 : S4x64.Idx → Elt Ideal .f32) (X18 : S4x1.Idx → Elt Ideal .f32)

theorem hidden_at (g : FVec Ideal S4096x4 .f32) (r : Fin 64) (b : Fin 4096) :
    k0_pay34 g (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 X10 (ix2 r b)
      = hiddenRow X4 X5 X6 X8 X9 X10 (fun k => g (ix2 b k)) b r := by
  unfold k0_pay34 hiddenRow
  rw [← head_at]
  generalize k0_pay33 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 = H
  pointwise

theorem feat_at (k : Fin 48) (b : Fin 4096) :
    k0_pay35 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 (ix2 k b)
      = featRow X4 X5 X6 X8 X9 b k := by
  unfold k0_pay35 featRow
  rw [← head_at]
  generalize k0_pay33 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 = H
  pointwise

theorem scale_at (r : Fin 64) (b : Fin 4096) :
    k0_pay36 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 X11 X13 (ix2 r b)
      = ∑ k, X11 (ix2 r k) * featRow X4 X5 X6 X8 X9 b k + X13 (ix2 r 0) := by
  unfold k0_pay36
  simp only [← feat_at]
  generalize k0_pay35 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 = H
  pointwise

theorem shift_at (r : Fin 64) (b : Fin 4096) :
    k0_pay37 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 X12 (ix2 r b)
      = ∑ k, X12 (ix2 r k) * featRow X4 X5 X6 X8 X9 b k := by
  unfold k0_pay37
  simp only [← feat_at]
  generalize k0_pay35 (k0_pay11 X4) (k0_pay12 X4) (k0_pay13 X5) (k0_pay14 X6) (k0_pay18 (k0_pay11 X4)) (k0_pay19 (k0_pay11 X4)) (k0_pay20 (k0_pay12 X4)) (k0_pay21 (k0_pay12 X4)) (k0_pay22 X5) (k0_pay23 X5) (k0_pay24 (k0_pay11 X4)) (k0_pay25 (k0_pay11 X4)) (k0_pay26 (k0_pay11 X4)) (k0_pay27 (k0_pay11 X4)) (k0_pay28 (k0_pay12 X4)) (k0_pay29 (k0_pay12 X4)) (k0_pay30 (k0_pay12 X4)) (k0_pay31 (k0_pay12 X4)) (k0_pay32 (F := Ideal)) X8 X9 = H
  pointwise

omit X4 X5 X6 X8 X9 X1 X2 X3 X7 X10 in
/-- What follows the features and the hidden values. -/
theorem out_at (A C D : FVec Ideal S64x4096 .f32) (b : Fin 4096) (f : Fin 48 → EReal) (h : Fin 64 → EReal)
    (W9 : Fin 48 → Fin 128 → EReal) (B10 : Fin 128 → EReal)
    (h11 : ∀ j k, X11 (ix2 j k) = W9 k ⟨j.val, by omega⟩) (h12 : ∀ j k, X12 (ix2 j k) = W9 k ⟨64 + j.val, by omega⟩)
    (h13 : ∀ j, X13 (ix2 j 0) = B10 ⟨j.val, by omega⟩) (h14 : ∀ j, X14 (ix2 j 0) = B10 ⟨64 + j.val, by omega⟩)
    (eA : ∀ r, A (ix2 r b) = h r) (eC : ∀ r, C (ix2 r b) = ∑ k, X11 (ix2 r k) * f k + X13 (ix2 r 0))
    (eD : ∀ r, D (ix2 r b) = ∑ k, X12 (ix2 r k) * f k) (q : Fin 4) :
    k0_pay38 A C D X14 X15 X16 X17 X18 (ix2 q b)
      = net f h W9 B10 (fun i k => X15 (ix2 k i)) (fun k => X16 (ix2 k 0)) (fun k q => X17 (ix2 q k)) (fun q => X18 (ix2 q 0)) q := by
  unfold k0_pay38
  pointwise
  simp only [eA, eC, eD, h11, h12, h13, h14, Ideal.erf_def]
  have e : ∀ i, (∑ k, W9 k ⟨i.val, by omega⟩ * f k + B10 ⟨i.val, by omega⟩) * h i
      + (∑ k, W9 k ⟨64 + i.val, by omega⟩ * f k + B10 ⟨64 + i.val, by omega⟩) = film f h W9 B10 i := fun i => by
    simp only [film, mul_comm (W9 _ _)]
  simp only [e]
  simp only [net, dense, gelu]
  refine congrArg Ideal.logistic (congrArg (· + _) (Finset.sum_congr rfl fun k _ => ?_))
  rw [mul_comm]
  simp only [mul_comm (X15 _)]

theorem blockOut_at (W9 : Fin 48 → Fin 128 → EReal) (B10 : Fin 128 → EReal)
    (h11 : ∀ j k, X11 (ix2 j k) = W9 k ⟨j.val, by omega⟩) (h12 : ∀ j k, X12 (ix2 j k) = W9 k ⟨64 + j.val, by omega⟩)
    (h13 : ∀ j, X13 (ix2 j 0) = B10 ⟨j.val, by omega⟩) (h14 : ∀ j, X14 (ix2 j 0) = B10 ⟨64 + j.val, by omega⟩)
    (q : Fin 4) (b : Fin 4096) :
    blockOut X1 X2 X3 X4 X5 X6 X7 X8 X9 X10 X11 X12 X13 X14 X15 X16 X17 X18 (ix2 q b)
      = net (featRow X4 X5 X6 X8 X9 b) (hiddenRow X4 X5 X6 X8 X9 X10 (fun k => k0_pay9 X3 (gRow X1 X2 X7) (ix2 b k)) b) W9 B10
          (fun i k => X15 (ix2 k i)) (fun k => X16 (ix2 k 0)) (fun k q => X17 (ix2 q k)) (fun q => X18 (ix2 q 0)) q := by
  unfold blockOut
  exact out_at X11 X12 X13 X14 X15 X16 X17 X18 _ _ _ b _ _ W9 B10 h11 h12 h13 h14
    (fun r => hidden_at X4 X5 X6 X8 X9 X10 _ r b) (fun r => scale_at X4 X5 X6 X8 X9 X11 X13 r b) (fun r => shift_at X4 X5 X6 X8 X9 X12 r b) q
end

end Cert.Proof.KernelIdeal
-- ==== Proof.KernelIdealPut.lean ====
/-
  A block of weights written at a constant place of a 24 by 112 array, read at an index: the block inside, the array elsewhere.
-/
module

public import proofs.«01_k».proof.Proof.KernelIdealPrefix
public import Idealize.ShloMosaic.Lib.Routing.OpsSet

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

theorem start_64 (idx : IVec S2 32) (k : S64.Idx) (a : Fin 2) : scatter_S24x112_S2_S64_0_0_01_0.start k idx a = (idx (ix1 a)).toInt := by
  match a with
  | 0 => exact congrArg (fun i => (idx i).toInt) (funext fun q => match q with | ⟨0, _⟩ => rfl)
  | 1 => exact congrArg (fun i => (idx i).toInt) (funext fun q => match q with | ⟨0, _⟩ => rfl)

/-- One row of 64 written at row `p` from column `q` on. -/
theorem put_64 {α : Type} (x0 : S24x112.Idx → α) (idx : IVec S2 32) (upd : S64.Idx → α) (p q : ℕ) (hp : (idx (ix1 0)).toInt = p)
    (hq : (idx (ix1 1)).toInt = q) (r : Fin 24) (c : Fin 112) :
    Host.scatter scatter_S24x112_S2_S64_0_0_01_0 (fun _ b => b) x0 idx upd (ix2 r c)
      = if h : r.val = p ∧ q ≤ c.val ∧ c.val < q + 64 then upd (ix1 ⟨c.val - q, by omega⟩) else x0 (ix2 r c) := by
  have lands : ∀ k : S64.Idx, scatter_S24x112_S2_S64_0_0_01_0.resultIdx? k idx = some (ix2 r c) ↔ p = r.val ∧ q + (k 0).val = c.val := by
    intro k
    have w0 : scatter_S24x112_S2_S64_0_0_01_0.window k 0 = 0 := rfl
    have w1 : scatter_S24x112_S2_S64_0_0_01_0.window k 1 = (k 0).val := rfl
    refine (Routing.resultIdx?_eq_some _ _ _ _).trans (Fin.forall_fin_two.trans ?_)
    simp only [start_64, w0, w1, hp, hq]
    change (p : Int) + ((0 : ℕ) : Int) = (r.val : Int) ∧ (q : Int) + ((k 0).val : Int) = (c.val : Int) ↔ _
    omega
  split
  · next h =>
    refine Routing.scatter_set_hit _ _ _ _ _ _ (fun k hk => ?_) (ix1 ⟨c.val - q, by omega⟩) ((lands _).2 ⟨h.1.symm, ?_⟩)
    · have hk := (lands k).1 hk
      refine congrArg upd (funext fun a => match a with | ⟨0, _⟩ => Fin.ext ?_)
      change (k 0).val = c.val - q
      omega
    · change q + (c.val - q) = c.val
      omega
  · next h =>
    refine Routing.scatter_set_miss _ _ _ _ _ fun k hk => h ?_
    have hk := (lands k).1 hk
    have : (k 0).val < 64 := (k 0).isLt
    omega

theorem start_16 (idx : IVec S2 32) (k : S16.Idx) (a : Fin 2) : scatter_S24x112_S2_S16_0_0_01_0.start k idx a = (idx (ix1 a)).toInt := by
  match a with
  | 0 => exact congrArg (fun i => (idx i).toInt) (funext fun q => match q with | ⟨0, _⟩ => rfl)
  | 1 => exact congrArg (fun i => (idx i).toInt) (funext fun q => match q with | ⟨0, _⟩ => rfl)

/-- One row of 16 written at row `p` from column `q` on. -/
theorem put_16 {α : Type} (x0 : S24x112.Idx → α) (idx : IVec S2 32) (upd : S16.Idx → α) (p q : ℕ) (hp : (idx (ix1 0)).toInt = p)
    (hq : (idx (ix1 1)).toInt = q) (r : Fin 24) (c : Fin 112) :
    Host.scatter scatter_S24x112_S2_S16_0_0_01_0 (fun _ b => b) x0 idx upd (ix2 r c)
      = if h : r.val = p ∧ q ≤ c.val ∧ c.val < q + 16 then upd (ix1 ⟨c.val - q, by omega⟩) else x0 (ix2 r c) := by
  have lands : ∀ k : S16.Idx, scatter_S24x112_S2_S16_0_0_01_0.resultIdx? k idx = some (ix2 r c) ↔ p = r.val ∧ q + (k 0).val = c.val := by
    intro k
    have w0 : scatter_S24x112_S2_S16_0_0_01_0.window k 0 = 0 := rfl
    have w1 : scatter_S24x112_S2_S16_0_0_01_0.window k 1 = (k 0).val := rfl
    refine (Routing.resultIdx?_eq_some _ _ _ _).trans (Fin.forall_fin_two.trans ?_)
    simp only [start_16, w0, w1, hp, hq]
    change (p : Int) + ((0 : ℕ) : Int) = (r.val : Int) ∧ (q : Int) + ((k 0).val : Int) = (c.val : Int) ↔ _
    omega
  split
  · next h =>
    refine Routing.scatter_set_hit _ _ _ _ _ _ (fun k hk => ?_) (ix1 ⟨c.val - q, by omega⟩) ((lands _).2 ⟨h.1.symm, ?_⟩)
    · have hk := (lands k).1 hk
      refine congrArg upd (funext fun a => match a with | ⟨0, _⟩ => Fin.ext ?_)
      change (k 0).val = c.val - q
      omega
    · change q + (c.val - q) = c.val
      omega
  · next h =>
    refine Routing.scatter_set_miss _ _ _ _ _ fun k hk => h ?_
    have hk := (lands k).1 hk
    have : (k 0).val < 16 := (k 0).isLt
    omega

theorem start_12x16 (idx : IVec S2 32) (k : S12x16.Idx) (a : Fin 2) : scatter_S24x112_S2_S12x16_01_n_01_0.start k idx a = (idx (ix1 a)).toInt := by
  match a with
  | 0 => exact congrArg (fun i => (idx i).toInt) (funext fun q => match q with | ⟨0, _⟩ => rfl)
  | 1 => exact congrArg (fun i => (idx i).toInt) (funext fun q => match q with | ⟨0, _⟩ => rfl)

/-- 12 rows of 16 written from row `p` and column `q` on. -/
theorem put_12x16 {α : Type} (x0 : S24x112.Idx → α) (idx : IVec S2 32) (upd : S12x16.Idx → α) (p q : ℕ) (hp : (idx (ix1 0)).toInt = p)
    (hq : (idx (ix1 1)).toInt = q) (r : Fin 24) (c : Fin 112) :
    Host.scatter scatter_S24x112_S2_S12x16_01_n_01_0 (fun _ b => b) x0 idx upd (ix2 r c)
      = if h : (p ≤ r.val ∧ r.val < p + 12) ∧ q ≤ c.val ∧ c.val < q + 16 then upd (ix2 ⟨r.val - p, by omega⟩ ⟨c.val - q, by omega⟩)
        else x0 (ix2 r c) := by
  have lands : ∀ k : S12x16.Idx, scatter_S24x112_S2_S12x16_01_n_01_0.resultIdx? k idx = some (ix2 r c) ↔ p + (k 0).val = r.val ∧ q + (k 1).val = c.val := by
    intro k
    have w0 : scatter_S24x112_S2_S12x16_01_n_01_0.window k 0 = (k 0).val := rfl
    have w1 : scatter_S24x112_S2_S12x16_01_n_01_0.window k 1 = (k 1).val := rfl
    refine (Routing.resultIdx?_eq_some _ _ _ _).trans (Fin.forall_fin_two.trans ?_)
    simp only [start_12x16, w0, w1, hp, hq]
    change (p : Int) + ((k 0).val : Int) = (r.val : Int) ∧ (q : Int) + ((k 1).val : Int) = (c.val : Int) ↔ _
    omega
  split
  · next h =>
    refine Routing.scatter_set_hit _ _ _ _ _ _ (fun k hk => ?_) (ix2 ⟨r.val - p, by omega⟩ ⟨c.val - q, by omega⟩) ((lands _).2 ⟨?_, ?_⟩)
    · have hk := (lands k).1 hk
      refine congrArg upd (funext fun a => match a with | ⟨0, _⟩ => Fin.ext ?_ | ⟨1, _⟩ => Fin.ext ?_)
      · change (k 0).val = r.val - p
        omega
      · change (k 1).val = c.val - q
        omega
    · change p + (r.val - p) = r.val
      omega
    · change q + (c.val - q) = c.val
      omega
  · next h =>
    refine Routing.scatter_set_miss _ _ _ _ _ fun k hk => h ?_
    have hk := (lands k).1 hk
    have : (k 0).val < 12 := (k 0).isLt
    have : (k 1).val < 16 := (k 1).isLt
    omega

theorem start_6x16 (idx : IVec S2 32) (k : S6x16.Idx) (a : Fin 2) : scatter_S24x112_S2_S6x16_01_n_01_0.start k idx a = (idx (ix1 a)).toInt := by
  match a with
  | 0 => exact congrArg (fun i => (idx i).toInt) (funext fun q => match q with | ⟨0, _⟩ => rfl)
  | 1 => exact congrArg (fun i => (idx i).toInt) (funext fun q => match q with | ⟨0, _⟩ => rfl)

/-- 6 rows of 16 written from row `p` and column `q` on. -/
theorem put_6x16 {α : Type} (x0 : S24x112.Idx → α) (idx : IVec S2 32) (upd : S6x16.Idx → α) (p q : ℕ) (hp : (idx (ix1 0)).toInt = p)
    (hq : (idx (ix1 1)).toInt = q) (r : Fin 24) (c : Fin 112) :
    Host.scatter scatter_S24x112_S2_S6x16_01_n_01_0 (fun _ b => b) x0 idx upd (ix2 r c)
      = if h : (p ≤ r.val ∧ r.val < p + 6) ∧ q ≤ c.val ∧ c.val < q + 16 then upd (ix2 ⟨r.val - p, by omega⟩ ⟨c.val - q, by omega⟩)
        else x0 (ix2 r c) := by
  have lands : ∀ k : S6x16.Idx, scatter_S24x112_S2_S6x16_01_n_01_0.resultIdx? k idx = some (ix2 r c) ↔ p + (k 0).val = r.val ∧ q + (k 1).val = c.val := by
    intro k
    have w0 : scatter_S24x112_S2_S6x16_01_n_01_0.window k 0 = (k 0).val := rfl
    have w1 : scatter_S24x112_S2_S6x16_01_n_01_0.window k 1 = (k 1).val := rfl
    refine (Routing.resultIdx?_eq_some _ _ _ _).trans (Fin.forall_fin_two.trans ?_)
    simp only [start_6x16, w0, w1, hp, hq]
    change (p : Int) + ((k 0).val : Int) = (r.val : Int) ∧ (q : Int) + ((k 1).val : Int) = (c.val : Int) ↔ _
    omega
  split
  · next h =>
    refine Routing.scatter_set_hit _ _ _ _ _ _ (fun k hk => ?_) (ix2 ⟨r.val - p, by omega⟩ ⟨c.val - q, by omega⟩) ((lands _).2 ⟨?_, ?_⟩)
    · have hk := (lands k).1 hk
      refine congrArg upd (funext fun a => match a with | ⟨0, _⟩ => Fin.ext ?_ | ⟨1, _⟩ => Fin.ext ?_)
      · change (k 0).val = r.val - p
        omega
      · change (k 1).val = c.val - q
        omega
    · change p + (r.val - p) = r.val
      omega
    · change q + (c.val - q) = c.val
      omega
  · next h =>
    refine Routing.scatter_set_miss _ _ _ _ _ fun k hk => h ?_
    have hk := (lands k).1 hk
    have : (k 0).val < 6 := (k 0).isLt
    have : (k 1).val < 16 := (k 1).isLt
    omega

end Cert.Proof.KernelIdeal
end
-- ==== Proof.KernelIdealHeads.lean ====
/-
  The two operands the host lines put together from several weights, read at an index: the head matrix and its bias.
-/
module

public import proofs.«01_k».proof.Proof.KernelIdealPut

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ)

/-- The head matrix at stack row `k` and head row `c`, from the weights: each weight's block where it was written, `z` elsewhere. -/
def wtrig {α : Type} (A11 : S10x64.Idx → α) (A3 : S2x16.Idx → α) (A7 : S12x16.Idx → α) (A5 : S6x16.Idx → α) (z : α) (k : Fin 24) (c : Fin 112) : α :=
  if h : (16 ≤ k.val ∧ k.val < 16 + 6) ∧ 96 ≤ c.val ∧ c.val < 96 + 16 then A5 (ix2 ⟨k.val - 16, by omega⟩ ⟨c.val - 96, by omega⟩)
  else if h : (2 ≤ k.val ∧ k.val < 2 + 12) ∧ 80 ≤ c.val ∧ c.val < 80 + 16 then A7 (ix2 ⟨k.val - 2, by omega⟩ ⟨c.val - 80, by omega⟩)
  else if h : k.val = 15 ∧ 64 ≤ c.val ∧ c.val < 64 + 16 then A3 (ix2 1 ⟨c.val - 64, by omega⟩)
  else if h : k.val = 14 ∧ 64 ≤ c.val ∧ c.val < 64 + 16 then A3 (ix2 0 ⟨c.val - 64, by omega⟩)
  else if h : k.val = 10 ∧ 0 ≤ c.val ∧ c.val < 0 + 64 then A11 (ix2 9 ⟨c.val - 0, by omega⟩)
  else if h : k.val = 4 ∧ 0 ≤ c.val ∧ c.val < 0 + 64 then A11 (ix2 8 ⟨c.val - 0, by omega⟩)
  else if h : k.val = 8 ∧ 0 ≤ c.val ∧ c.val < 0 + 64 then A11 (ix2 7 ⟨c.val - 0, by omega⟩)
  else if h : k.val = 2 ∧ 0 ≤ c.val ∧ c.val < 0 + 64 then A11 (ix2 6 ⟨c.val - 0, by omega⟩)
  else if h : k.val = 1 ∧ 0 ≤ c.val ∧ c.val < 0 + 64 then A11 (ix2 5 ⟨c.val - 0, by omega⟩)
  else if h : k.val = 0 ∧ 0 ≤ c.val ∧ c.val < 0 + 64 then A11 (ix2 4 ⟨c.val - 0, by omega⟩)
  else z

set_option maxHeartbeats 3200000 in
theorem V_wtrig (c : Dev nD) (r : Fin 112) (k : Fin 24) : V m c main_call0_v85 (ix2 r k)
    = wtrig (arg m c main_arg11) (arg m c main_arg3) (arg m c main_arg7) (arg m c main_arg5) (FloatOps.ofBits .f32 0x00000000#32) k r := by
  unfold V V0
  simp only [List.flatten_cons, List.flatten_nil, List.append_nil]
  after_reads_at
  refine (put_6x16 _ _ _ 16 96 ?_ ?_ k r).trans (dite_congr rfl (fun _ => rfl) fun _ => ?_)
  rotate_left 2
  refine (put_12x16 _ _ _ 2 80 ?_ ?_ k r).trans (dite_congr rfl (fun _ => rfl) fun _ => ?_)
  rotate_left 2
  refine (put_16 _ _ _ 15 64 ?_ ?_ k r).trans (dite_congr rfl (fun _ => rfl) fun _ => ?_)
  rotate_left 2
  refine (put_16 _ _ _ 14 64 ?_ ?_ k r).trans (dite_congr rfl (fun _ => rfl) fun _ => ?_)
  rotate_left 2
  refine (put_64 _ _ _ 10 0 ?_ ?_ k r).trans (dite_congr rfl (fun _ => rfl) fun _ => ?_)
  rotate_left 2
  refine (put_64 _ _ _ 4 0 ?_ ?_ k r).trans (dite_congr rfl (fun _ => rfl) fun _ => ?_)
  rotate_left 2
  refine (put_64 _ _ _ 8 0 ?_ ?_ k r).trans (dite_congr rfl (fun _ => rfl) fun _ => ?_)
  rotate_left 2
  refine (put_64 _ _ _ 2 0 ?_ ?_ k r).trans (dite_congr rfl (fun _ => rfl) fun _ => ?_)
  rotate_left 2
  refine (put_64 _ _ _ 1 0 ?_ ?_ k r).trans (dite_congr rfl (fun _ => rfl) fun _ => ?_)
  rotate_left 2
  refine (put_64 _ _ _ 0 0 ?_ ?_ k r).trans (dite_congr rfl (fun _ => rfl) fun _ => ?_)
  rotate_left 2
  · rfl
  all_goals (pointwise; after_reads_at; rfl)

/-- The heads' bias at head row `r`, from the four bias vectors. -/
def biasRow {α : Type} (A12 : S64.Idx → α) (A4 A8 A6 : S16.Idx → α) (r : Fin 112) : α :=
  if h : r.val < 64 then A12 (ix1 ⟨r.val, h⟩)
  else if h : r.val - 64 < 16 then A4 (ix1 ⟨r.val - 64, h⟩)
  else if h : r.val - 64 - 16 < 16 then A8 (ix1 ⟨r.val - 64 - 16, h⟩)
  else A6 (ix1 ⟨r.val - 64 - 16 - 16, by omega⟩)

theorem upto_arg {b : Ref sig .tc} (hb : b ∈ args) (c : Dev nD) (n : ℕ) :
    StableHlo.upto hostOps0 (fun b => m (c, b)) n (Proc.tc.devRef b) = arg m c b := by
  exact StableHlo.after_of_forall_not_mem _ _ fun op h => (List.forall_iff_forall_mem.mp (host_writes b hb)) op (List.mem_of_mem_take h)

set_option maxHeartbeats 1600000 in
theorem V_ba (c : Dev nD) (j : S112x1.Idx) : V m c main_call0_v87 j
    = biasRow (arg m c main_arg12) (arg m c main_arg4) (arg m c main_arg8) (arg m c main_arg6) (j 0) := by
  unfold V V0
  simp only [List.flatten_cons, List.flatten_nil, List.append_nil]
  after_reads_at
  unfold biasRow
  split
  · exact congrFun (upto_arg m (b := main_arg12) (by decide) c 115) _
  split
  · exact congrFun (upto_arg m (b := main_arg4) (by decide) c 115) _
  split
  · exact congrFun (upto_arg m (b := main_arg8) (by decide) c 115) _
  · exact congrFun (upto_arg m (b := main_arg6) (by decide) c 115) _

end Cert.Proof.KernelIdeal
end
-- ==== Proof.ReferenceValue.lean ====
/-
  The reference's result at an index over the extended reals, as a formula in its arguments.
-/
module

public import proofs.«01_k».proof.Proof.Gen.ReferenceIdeal.Run
public import proofs.«01_k».proof.Proof.Net
public import Idealize.ShloMosaic.Lib.Routing.Ops
public import Idealize.ShloMosaic.Lib.Routing.OpsPair

@[expose] public section

set_option maxRecDepth 16384

noncomputable section

namespace Cert.Proof.Reference

open Cert.ReferenceIdeal Cert.ReferenceIdeal.Gen Cert.ReferenceIdeal.Value Cert.Proof.Net
open Idealize.ShloMosaic Idealize.ShloMosaic.TcCoe

/-! Columns side by side, read at an index. -/

section Columns
variable (n : Fin 2097152)

theorem cat6 (u0 u1 u2 u3 u4 u5 : S2097152x1.Idx → Elt Ideal .f32) (k : Fin 6) :
    concatenate S2097152x6 1 [⟨S2097152x1, u0⟩, ⟨S2097152x1, u1⟩, ⟨S2097152x1, u2⟩, ⟨S2097152x1, u3⟩, ⟨S2097152x1, u4⟩, ⟨S2097152x1, u5⟩]
        concatenates_S2097152x1_S2097152x1_S2097152x1_S2097152x1_S2097152x1_S2097152x1_S2097152x6_d1 (ix2 n k)
      = (![u0 (ix2 n 0), u1 (ix2 n 0), u2 (ix2 n 0), u3 (ix2 n 0), u4 (ix2 n 0), u5 (ix2 n 0)] : Fin 6 → EReal) k := by
  pointwise
  fin_cases k
  all_goals rfl

theorem cat12 (u0 u1 u2 u3 u4 u5 u6 u7 u8 u9 u10 u11 : S2097152x1.Idx → Elt Ideal .f32) (k : Fin 12) :
    concatenate S2097152x12 1 [⟨S2097152x1, u0⟩, ⟨S2097152x1, u1⟩, ⟨S2097152x1, u2⟩, ⟨S2097152x1, u3⟩, ⟨S2097152x1, u4⟩, ⟨S2097152x1, u5⟩,
          ⟨S2097152x1, u6⟩, ⟨S2097152x1, u7⟩, ⟨S2097152x1, u8⟩, ⟨S2097152x1, u9⟩, ⟨S2097152x1, u10⟩, ⟨S2097152x1, u11⟩]
        concatenates_S2097152x1_S2097152x1_S2097152x1_S2097152x1_S2097152x1_S2097152x1_S2097152x1_S2097152x1_S2097152x1_S2097152x1_S2097152x1_S2097152x1_S2097152x12_d1 (ix2 n k)
      = (![u0 (ix2 n 0), u1 (ix2 n 0), u2 (ix2 n 0), u3 (ix2 n 0), u4 (ix2 n 0), u5 (ix2 n 0), u6 (ix2 n 0), u7 (ix2 n 0), u8 (ix2 n 0),
          u9 (ix2 n 0), u10 (ix2 n 0), u11 (ix2 n 0)] : Fin 12 → EReal) k := by
  pointwise
  fin_cases k
  all_goals rfl

theorem cat48 (a b c : S2097152x16.Idx → Elt Ideal .f32) (k : Fin 48) :
    concatenate S2097152x48 1 [⟨S2097152x16, a⟩, ⟨S2097152x16, b⟩, ⟨S2097152x16, c⟩]
        concatenates_S2097152x16_S2097152x16_S2097152x16_S2097152x48_d1 (ix2 n k)
      = if h : k.val < 16 then a (ix2 n ⟨k.val, h⟩) else if h : k.val - 16 < 16 then b (ix2 n ⟨k.val - 16, h⟩) else c (ix2 n ⟨k.val - 16 - 16, by omega⟩) := by
  pointwise

/-! The three dense heads, for any features. -/

theorem denseA (C : FVec Ideal S2097152x2 .f32) (W : FVec Ideal S2x16 .f32) (B : FVec Ideal S16 .f32) (k : Fin 16) :
    maximumf (addf (Host.dotGeneral dot_S2097152x2_S2x16_S2097152x16_1_0_0_1_n_n none C W) (broadcastInDim S2097152x16 ![0, 1] bcast_S1x16_S2097152x16_0_1 (broadcastInDim S1x16 ![1] bcast_S16_S1x16_1 B))) (broadcastInDim S2097152x16 ![] bcast_S_S2097152x16 (constant S_ .f32 0x00000000#32)) (ix2 n k)
      = max (dense (fun i => C (ix2 n i)) (fun i => W (ix2 i k)) (B (ix1 k))) 0 := by
  unfold dense
  pointwise

theorem denseB (C : FVec Ideal S2097152x12 .f32) (W : FVec Ideal S12x16 .f32) (B : FVec Ideal S16 .f32) (k : Fin 16) :
    maximumf (addf (Host.dotGeneral dot_S2097152x12_S12x16_S2097152x16_1_0_0_1_n_n none C W) (broadcastInDim S2097152x16 ![0, 1] bcast_S1x16_S2097152x16_0_1 (broadcastInDim S1x16 ![1] bcast_S16_S1x16_1 B))) (broadcastInDim S2097152x16 ![] bcast_S_S2097152x16 (constant S_ .f32 0x00000000#32)) (ix2 n k)
      = max (dense (fun i => C (ix2 n i)) (fun i => W (ix2 i k)) (B (ix1 k))) 0 := by
  unfold dense
  pointwise

theorem denseC (C : FVec Ideal S2097152x6 .f32) (W : FVec Ideal S6x16 .f32) (B : FVec Ideal S16 .f32) (k : Fin 16) :
    maximumf (addf (Host.dotGeneral dot_S2097152x6_S6x16_S2097152x16_1_0_0_1_n_n none C W) (broadcastInDim S2097152x16 ![0, 1] bcast_S1x16_S2097152x16_0_1 (broadcastInDim S1x16 ![1] bcast_S16_S1x16_1 B))) (broadcastInDim S2097152x16 ![] bcast_S_S2097152x16 (constant S_ .f32 0x00000000#32)) (ix2 n k)
      = max (dense (fun i => C (ix2 n i)) (fun i => W (ix2 i k)) (B (ix1 k))) 0 := by
  unfold dense
  pointwise

end Columns

/-- The sines and cosines of one, two and three times an angle. -/
def harm (a : EReal) : Fin 6 → EReal :=
  ![Ideal.sin a, Ideal.cos a, Ideal.sin (Ideal.ofBits .f32 0x40000000#32 * a), Ideal.cos (Ideal.ofBits .f32 0x40000000#32 * a),
    Ideal.sin (Ideal.ofBits .f32 0x40400000#32 * a), Ideal.cos (Ideal.ofBits .f32 0x40400000#32 * a)]

/-- The six position features of a pixel at `(x, y)`. -/
def pos (x y : EReal) : Fin 6 → EReal :=
  ![x, y, Ideal.sin (Ideal.ofBits .f32 0x40C90FDB#32 * x), Ideal.sin (Ideal.ofBits .f32 0x40C90FDB#32 * y),
    Ideal.sin (Ideal.ofBits .f32 0x41490FDB#32 * x), Ideal.sin (Ideal.ofBits .f32 0x41490FDB#32 * y)]

/-- The harmonics of the two position angles, `x`'s first. -/
def harm2 (a b : EReal) : Fin 12 → EReal :=
  ![Ideal.sin a, Ideal.cos a, Ideal.sin (Ideal.ofBits .f32 0x40000000#32 * a), Ideal.cos (Ideal.ofBits .f32 0x40000000#32 * a),
    Ideal.sin (Ideal.ofBits .f32 0x40400000#32 * a), Ideal.cos (Ideal.ofBits .f32 0x40400000#32 * a),
    Ideal.sin b, Ideal.cos b, Ideal.sin (Ideal.ofBits .f32 0x40000000#32 * b), Ideal.cos (Ideal.ofBits .f32 0x40000000#32 * b),
    Ideal.sin (Ideal.ofBits .f32 0x40400000#32 * b), Ideal.cos (Ideal.ofBits .f32 0x40400000#32 * b)]

variable (V0 : Valuation τ sig (Elt Ideal))

/-- A pixel's position. -/
def xAt (n : Fin 2097152) : EReal := res_main_v19 V0 (ix2 n 0)
def yAt (n : Fin 2097152) : EReal := res_main_v24 V0 (ix2 n 0)

/-- A pixel's time. -/
def timeAt (n : Fin 2097152) : EReal := V0 (Proc.devRef .tc main_arg1) (ix2 n 0)

theorem v37_at (n : Fin 2097152) (k : Fin 6) : res_main_v37 V0 (ix2 n k) = pos (xAt V0 n) (yAt V0 n) k := by
  unfold res_main_v37
  refine (cat6 n _ _ _ _ _ _ k).trans (congrFun ?_ k)
  unfold pos xAt yAt
  generalize res_main_v19 V0 = X, res_main_v24 V0 = Y
  pointwise

theorem v46_at (n : Fin 2097152) : res_main_v46 V0 (ix2 n 0) = xAt V0 n * Ideal.ofBits .f32 0x40C90FDB#32 := by
  have e := v37_at V0 n 0
  unfold res_main_v46
  revert e
  generalize res_main_v37 V0 = X
  intro e
  pointwise
  rw [← show X (ix2 n 0) = xAt V0 n from e]

theorem v49_at (n : Fin 2097152) : res_main_v49 V0 (ix2 n 0) = yAt V0 n * Ideal.ofBits .f32 0x40C90FDB#32 := by
  have e := v37_at V0 n 1
  unfold res_main_v49
  revert e
  generalize res_main_v37 V0 = X
  intro e
  pointwise
  rw [← show X (ix2 n 1) = yAt V0 n from e]

theorem v86_at (n : Fin 2097152) :
    res_main_v86 V0 (ix2 n 0) = timeAt V0 n * Ideal.ofBits .f32 0x40C90FDB#32 := by
  unfold res_main_v86 timeAt
  pointwise

/-- The 48 conditioning features of a pixel. -/
def feat (n : Fin 2097152) (k : Fin 48) : EReal :=
  if h : k.val < 16 then
    max (dense (fun i : Fin 2 => V0 (Proc.devRef .tc main_arg1) (ix2 n i)) (fun i => V0 (Proc.devRef .tc main_arg3) (ix2 i ⟨k.val, h⟩))
      (V0 (Proc.devRef .tc main_arg4) (ix1 ⟨k.val, h⟩))) 0
  else if h : k.val - 16 < 16 then
    max (dense (harm2 (xAt V0 n * Ideal.ofBits .f32 0x40C90FDB#32) (yAt V0 n * Ideal.ofBits .f32 0x40C90FDB#32))
      (fun i => V0 (Proc.devRef .tc main_arg7) (ix2 i ⟨k.val - 16, h⟩)) (V0 (Proc.devRef .tc main_arg8) (ix1 ⟨k.val - 16, h⟩))) 0
  else
    max (dense (harm (timeAt V0 n * Ideal.ofBits .f32 0x40C90FDB#32))
      (fun i => V0 (Proc.devRef .tc main_arg5) (ix2 i ⟨k.val - 16 - 16, by omega⟩)) (V0 (Proc.devRef .tc main_arg6) (ix1 ⟨k.val - 16 - 16, by omega⟩))) 0

theorem v107_at (n : Fin 2097152) (k : Fin 48) : res_main_v107 V0 (ix2 n k) = feat V0 n k := by
  unfold res_main_v107 feat
  refine (cat48 n _ _ _ k).trans (dite_congr rfl (fun h => denseA n _ _ _ _) fun h => dite_congr rfl (fun h' => (denseB n _ _ _ _).trans ?_)
    fun h' => (denseC n _ _ _ _).trans ?_)
  · refine congrArg (fun f => max (dense f _ _) 0) (funext fun i => (cat12 n _ _ _ _ _ _ _ _ _ _ _ _ i).trans (congrFun ?_ i))
    rw [← v46_at, ← v49_at]
    unfold harm2
    generalize res_main_v46 V0 = X, res_main_v49 V0 = Y
    pointwise
  · refine congrArg (fun f => max (dense f _ _) 0) (funext fun i => (cat6 n _ _ _ _ _ _ i).trans (congrFun ?_ i))
    rw [← v86_at]
    unfold harm
    generalize res_main_v86 V0 = X
    pointwise

/-- A pixel's number. -/
def pixelWord (n : Fin 2097152) : BitVec 32 :=
  IntOp.addi (IntOp.muli (V0 (Proc.devRef .tc main_arg0) (ix2 n 1)) 1024#32) (V0 (Proc.devRef .tc main_arg0) (ix2 n 0))

theorem v6_at (n : Fin 2097152) : res_main_v6 V0 (ix1 n) = pixelWord V0 n := by
  unfold res_main_v6 pixelWord
  pointwise

/-- The word that says where in the table the pixel's row is: the number, which is in range. -/
theorem latent_row (n : Fin 2097152) (hn : (pixelWord V0 n).toNat < 1048576) (k : Fin 4) :
    Host.gather gather_S1048576x4_S2097152x1_S2097152x4_1_0_n_n_0_1_14
        (shapeCast S1048576x4 (V0 (Proc.devRef .tc main_arg2)) shapeCasts_S1024x1024x4_S1048576x4)
        (broadcastInDim S2097152x1 ![0] bcast_S2097152_S2097152x1_0
          (select (cmpi .slt (res_main_v6 V0) (broadcastInDim S2097152 ![] bcast_S_S2097152 (constantI S_ 32 0#32)))
            (addi (res_main_v6 V0) (broadcastInDim S2097152 ![] bcast_S_S2097152 (constantI S_ 32 1048576#32))) (res_main_v6 V0)))
        (ix2 n k)
      = V0 (Proc.devRef .tc main_arg2) (ix3 ⟨(pixelWord V0 n).toNat / 1024, by omega⟩ ⟨(pixelWord V0 n).toNat % 1024, by omega⟩ k) := by
  have e := v6_at V0 n
  revert e
  generalize res_main_v6 V0 = P
  intro e
  have hi : broadcastInDim S2097152x1 ![0] bcast_S2097152_S2097152x1_0
      (select (cmpi .slt P (broadcastInDim S2097152 ![] bcast_S_S2097152 (constantI S_ 32 0#32)))
        (addi P (broadcastInDim S2097152 ![] bcast_S_S2097152 (constantI S_ 32 1048576#32))) P) (ix2 n 0)
      = BitVec.ofNat 32 (pixelWord V0 n).toNat := by
    pointwise
    rw [e, Routing.wrap_of_lt _ _ (by omega)]
    simp
  refine (Routing.gather_row (nb := 1048576) (B := 4) (n := 2097152) gather_S1048576x4_S2097152x1_S2097152x4_1_0_n_n_0_1_14
    rfl rfl rfl rfl rfl _ _ n k ⟨(pixelWord V0 n).toNat, hn⟩ hi (by decide)).trans ?_
  change shapeCast S1048576x4 (V0 (Proc.devRef .tc main_arg2)) shapeCasts_S1024x1024x4_S1048576x4 (ix2 _ k) = _
  pointwise

/-- The hidden values of a pixel. -/
def hidden (n : Fin 2097152) (hn : (pixelWord V0 n).toNat < 1048576) (j : Fin 64) : EReal :=
  dense (fun k : Fin 4 => V0 (Proc.devRef .tc main_arg2) (ix3 ⟨(pixelWord V0 n).toNat / 1024, by omega⟩ ⟨(pixelWord V0 n).toNat % 1024, by omega⟩ k))
      (fun k => V0 (Proc.devRef .tc main_arg11) (ix2 ⟨k.val, by omega⟩ j))
      (dense (pos (xAt V0 n) (yAt V0 n)) (fun k => V0 (Proc.devRef .tc main_arg11) (ix2 ⟨4 + k.val, by omega⟩ j)) (V0 (Proc.devRef .tc main_arg12) (ix1 j)))

theorem v111_at (n : Fin 2097152) (j : Fin 128) : res_main_v111 V0 (ix2 n j)
    = dense (feat V0 n) (fun k => V0 (Proc.devRef .tc main_arg9) (ix2 k j)) (V0 (Proc.devRef .tc main_arg10) (ix1 j)) := by
  rw [show feat V0 n = fun k => res_main_v107 V0 (ix2 n k) from funext fun k => (v107_at V0 n k).symm]
  unfold res_main_v111 dense
  generalize res_main_v107 V0 = X
  pointwise

theorem v119_at (n : Fin 2097152) (hn : (pixelWord V0 n).toNat < 1048576) (j : Fin 64) : res_main_v119 V0 (ix2 n j)
    = film (feat V0 n) (hidden V0 n hn) (fun k c => V0 (Proc.devRef .tc main_arg9) (ix2 k c)) (fun c => V0 (Proc.devRef .tc main_arg10) (ix1 c)) j := by
  have e := latent_row V0 n hn
  have e1 := v37_at V0 n
  have e2 := v111_at V0 n
  unfold res_main_v119 film hidden
  revert e e1 e2
  generalize Host.gather _ _ _ = G, res_main_v37 V0 = X, res_main_v111 V0 = Y
  intro e e1 e2
  pointwise
  simp only [e, e1, e2, dense, add_assoc]

theorem v130_at (n : Fin 2097152) (hn : (pixelWord V0 n).toNat < 1048576) (j : Fin 64) : res_main_v130 V0 (ix2 n j)
    = dense (fun i => gelu (film (feat V0 n) (hidden V0 n hn) (fun k c => V0 (Proc.devRef .tc main_arg9) (ix2 k c)) (fun c => V0 (Proc.devRef .tc main_arg10) (ix1 c)) i))
        (fun i => V0 (Proc.devRef .tc main_arg13) (ix2 i j)) (V0 (Proc.devRef .tc main_arg14) (ix1 j)) := by
  have e := v119_at V0 n hn
  unfold res_main_v130
  revert e
  generalize res_main_v119 V0 = X
  intro e
  pointwise
  simp only [e, dense, gelu_erfc]

/-- The result, from the last dense layer's argument. -/
theorem v147_at (n : Fin 2097152) (hn : (pixelWord V0 n).toNat < 1048576) (q : Fin 4) :
    Host.divf (broadcastInDim S2097152x4 ![] bcast_S_S2097152x4 (constant S_ .f32 0x3F800000#32)) (addf (broadcastInDim S2097152x4 ![] bcast_S_S2097152x4 (constant S_ .f32 0x3F800000#32)) (Host.exp (Host.negf (addf (Host.dotGeneral (φ₂ := .f32) dot_S2097152x64_S64x4_S2097152x4_1_0_0_1_n_n none (mulf (mulf (broadcastInDim S2097152x64 ![] bcast_S_S2097152x64 (constant S_ .f32 0x3F000000#32)) (res_main_v130 V0)) (Host.erfc (mulf (Host.negf (res_main_v130 V0)) (broadcastInDim S2097152x64 ![] bcast_S_S2097152x64 (constant S_ .f32 0x3F3504F3#32))))) (V0 (Proc.devRef .tc main_arg15))) (broadcastInDim S2097152x4 ![0, 1] bcast_S1x4_S2097152x4_0_1 (broadcastInDim S1x4 ![1] bcast_S4_S1x4_1 (V0 (Proc.devRef .tc main_arg16)))))))) (ix2 n q)
      = net (feat V0 n) (hidden V0 n hn) (fun k c => V0 (Proc.devRef .tc main_arg9) (ix2 k c)) (fun c => V0 (Proc.devRef .tc main_arg10) (ix1 c))
          (fun i k => V0 (Proc.devRef .tc main_arg13) (ix2 i k)) (fun k => V0 (Proc.devRef .tc main_arg14) (ix1 k))
          (fun k q => V0 (Proc.devRef .tc main_arg15) (ix2 k q)) (fun q => V0 (Proc.devRef .tc main_arg16) (ix1 q)) q := by
  have e := v130_at V0 n hn
  unfold net
  revert e
  generalize res_main_v130 V0 = X
  intro e
  pointwise
  simp only [e, gelu_erfc]
  unfold dense Ideal.logistic
  rfl

end Cert.Proof.Reference
-- ==== Proof.Equation.lean ====
/-
  The two spellings of the first layers agree: the kernel's double and triple angles are the reference's sines and cosines of
  multiples, and the rows of its one product over 24 stacked features are the reference's separate products.
-/
module

public import proofs.«01_k».proof.Proof.KernelIdealValue
public import proofs.«01_k».proof.Proof.KernelIdealHeads
public import proofs.«01_k».proof.Proof.ReferenceValue

@[expose] public section

set_option maxRecDepth 16384

noncomputable section

namespace Cert.Proof.Equation

open Cert.Proof.KernelIdeal Cert.Proof.Reference Cert.Proof.Net
open Idealize.ShloMosaic

/-! The constants. -/

/-- The rounded two pi as a real. -/
def tauR : ℝ := 13176795 / 2097152

theorem two_eq : two = ((2 : ℝ) : EReal) := by
  simp [two, Ideal.ofBits, Ideal.ieee, -EReal.coe_mul]
  norm_num
theorem three_eq : Ideal.ofBits .f32 0x40400000#32 = ((3 : ℝ) : EReal) := by
  simp [Ideal.ofBits, Ideal.ieee, -EReal.coe_mul]
  norm_num
theorem tau_eq : tau = ((tauR : ℝ) : EReal) := by
  simp [tau, tauR, Ideal.ofBits, Ideal.ieee, -EReal.coe_mul]
  norm_num
theorem tau2_eq : Ideal.ofBits .f32 0x41490FDB#32 = ((2 * tauR : ℝ) : EReal) := by
  simp [tauR, Ideal.ofBits, Ideal.ieee, -EReal.coe_mul]
  norm_num
theorem unit_eq : Ideal.ofBits .f32 0x3A800000#32 = ((1 / 1024 : ℝ) : EReal) := by
  simp [Ideal.ofBits, Ideal.ieee, -EReal.coe_mul]
  norm_num
theorem size_eq : Ideal.ofBits .f32 0x44800000#32 = ((1024 : ℝ) : EReal) := by
  simp [Ideal.ofBits, Ideal.ieee, -EReal.coe_mul]
  norm_num

/-! The multiples of an angle. -/

section Angle
variable (a : ℝ)

theorem sin2_eq : sin2 (Ideal.sin a) (Ideal.cos a) = Ideal.sin (two * a) := by
  rw [sin2, two_eq, ← EReal.coe_mul, Ideal.sin_coe, Ideal.cos_coe, Ideal.sin_coe, Real.sin_two_mul]
  norm_cast
theorem cos2_eq : cos2 (Ideal.sin a) = Ideal.cos (two * a) := by
  rw [cos2, two_eq, ← EReal.coe_mul, Ideal.sin_coe, Ideal.cos_coe, Real.cos_two_mul, Real.cos_sq']
  rw [← EReal.coe_one, ← EReal.coe_mul, ← EReal.coe_mul, ← EReal.coe_sub]
  congr 1; ring
theorem sin3_eq : sin3 (Ideal.sin a) (Ideal.cos a) = Ideal.sin (Ideal.ofBits .f32 0x40400000#32 * a) := by
  rw [sin3, sin2_eq, cos2_eq, three_eq, two_eq, ← EReal.coe_mul, ← EReal.coe_mul, Ideal.sin_coe, Ideal.cos_coe, Ideal.sin_coe, Ideal.cos_coe, Ideal.sin_coe,
    ← EReal.coe_mul, ← EReal.coe_mul, ← EReal.coe_add, show 3 * a = a + 2 * a by ring, Real.sin_add]
theorem cos3_eq : cos3 (Ideal.sin a) (Ideal.cos a) = Ideal.cos (Ideal.ofBits .f32 0x40400000#32 * a) := by
  rw [cos3, sin2_eq, cos2_eq, three_eq, two_eq, ← EReal.coe_mul, ← EReal.coe_mul, Ideal.sin_coe, Ideal.cos_coe, Ideal.sin_coe, Ideal.cos_coe, Ideal.cos_coe,
    ← EReal.coe_mul, ← EReal.coe_mul, ← EReal.coe_sub, show 3 * a = a + 2 * a by ring, Real.cos_add]

end Angle

/-! The head matrix row by row. -/

section Rows
variable (A11 : KernelIdeal.S10x64.Idx → EReal) (A3 : KernelIdeal.S2x16.Idx → EReal) (A7 : KernelIdeal.S12x16.Idx → EReal) (A5 : KernelIdeal.S6x16.Idx → EReal)

theorem row_hidden (r : Fin 64) (hr : r.val < 112) (k : Fin 24) : wtrig A11 A3 A7 A5 0 k ⟨r.val, hr⟩
    = (![A11 (ix2 4 r), A11 (ix2 5 r), A11 (ix2 6 r), 0, A11 (ix2 8 r), 0, 0, 0, A11 (ix2 7 r), 0, A11 (ix2 9 r), 0, 0, 0, 0, 0, 0, 0, 0, 0, 0, 0, 0, 0]
        : Fin 24 → EReal) k := by
  have h1 : ¬ 96 ≤ r.val := by omega
  have h2 : ¬ 80 ≤ r.val := by omega
  have h3 : ¬ 64 ≤ r.val := by omega
  fin_cases k <;> simp [wtrig, h1, h2, h3]

theorem row_colour (r : Fin 16) (hr : 64 + r.val < 112) (k : Fin 24) : wtrig A11 A3 A7 A5 0 k ⟨64 + r.val, hr⟩
    = (![0, 0, 0, 0, 0, 0, 0, 0, 0, 0, 0, 0, 0, 0, A3 (ix2 0 r), A3 (ix2 1 r), 0, 0, 0, 0, 0, 0, 0, 0] : Fin 24 → EReal) k := by
  have h1 : ¬ 96 ≤ 64 + r.val := by omega
  have h2 : ¬ 80 ≤ 64 + r.val := by omega
  have h3 : ¬ 64 + r.val < 64 := by omega
  have h4 : 64 + r.val < 80 := by omega
  fin_cases k <;> simp [wtrig, h1, h2, h3, h4]

theorem row_position (r : Fin 16) (hr : 80 + r.val < 112) (k : Fin 24) : wtrig A11 A3 A7 A5 0 k ⟨80 + r.val, hr⟩
    = (![0, 0, A7 (ix2 0 r), A7 (ix2 1 r), A7 (ix2 2 r), A7 (ix2 3 r), A7 (ix2 4 r), A7 (ix2 5 r), A7 (ix2 6 r), A7 (ix2 7 r), A7 (ix2 8 r), A7 (ix2 9 r),
        A7 (ix2 10 r), A7 (ix2 11 r), 0, 0, 0, 0, 0, 0, 0, 0, 0, 0] : Fin 24 → EReal) k := by
  have h1 : ¬ 96 ≤ 80 + r.val := by omega
  have h2 : ¬ 80 + r.val < 80 := by omega
  have h3 : ¬ 80 + r.val < 64 := by omega
  have h4 : 80 + r.val < 96 := by omega
  fin_cases k <;> simp [wtrig, h1, h2, h3, h4]

theorem row_time (r : Fin 16) (hr : 96 + r.val < 112) (k : Fin 24) : wtrig A11 A3 A7 A5 0 k ⟨96 + r.val, hr⟩
    = (![0, 0, 0, 0, 0, 0, 0, 0, 0, 0, 0, 0, 0, 0, 0, 0, A5 (ix2 0 r), A5 (ix2 1 r), A5 (ix2 2 r), A5 (ix2 3 r), A5 (ix2 4 r), A5 (ix2 5 r), 0, 0]
        : Fin 24 → EReal) k := by
  have h1 : ¬ 96 + r.val < 96 := by omega
  have h2 : ¬ 96 + r.val < 80 := by omega
  have h3 : ¬ 96 + r.val < 64 := by omega
  have h4 : 96 + r.val < 112 := by omega
  fin_cases k <;> simp [wtrig, h1, h2, h3, h4]

/-! Each row's product with the stack. -/

variable (x y t : ℝ) (u : EReal)

theorem stack_eq : stack x y t u
    = ![(x : EReal), y, Ideal.sin (x * tau), Ideal.cos (x * tau), Ideal.sin (two * (x * tau)), Ideal.cos (two * (x * tau)),
        Ideal.sin (Ideal.ofBits .f32 0x40400000#32 * (x * tau)), Ideal.cos (Ideal.ofBits .f32 0x40400000#32 * (x * tau)),
        Ideal.sin (y * tau), Ideal.cos (y * tau), Ideal.sin (two * (y * tau)), Ideal.cos (two * (y * tau)),
        Ideal.sin (Ideal.ofBits .f32 0x40400000#32 * (y * tau)), Ideal.cos (Ideal.ofBits .f32 0x40400000#32 * (y * tau)),
        t, u, Ideal.sin (t * tau), Ideal.cos (t * tau), Ideal.sin (two * (t * tau)), Ideal.cos (two * (t * tau)),
        Ideal.sin (Ideal.ofBits .f32 0x40400000#32 * (t * tau)), Ideal.cos (Ideal.ofBits .f32 0x40400000#32 * (t * tau)), 0, 0] := by
  simp only [stack, tau_eq, ← EReal.coe_mul x, ← EReal.coe_mul y, ← EReal.coe_mul t, sin2_eq, cos2_eq, sin3_eq, cos3_eq]

theorem pos_eq : pos x y = ![(x : EReal), y, Ideal.sin (x * tau), Ideal.sin (y * tau), Ideal.sin (two * (x * tau)), Ideal.sin (two * (y * tau))] := by
  simp only [pos, tau2_eq, two_eq, tau_eq, ← EReal.coe_mul, mul_comm tauR, ← mul_assoc, mul_right_comm 2 tauR]

theorem hidden_sum (r : Fin 64) (hr : r.val < 112) : ∑ k, wtrig A11 A3 A7 A5 0 k ⟨r.val, hr⟩ * stack x y t u k
    = ∑ k : Fin 6, pos x y k * A11 (ix2 ⟨4 + k.val, by omega⟩ r) := by
  simp only [row_hidden, stack_eq, pos_eq]
  simp [Fin.sum_univ_succ]
  simp only [mul_comm (A11 _)]
  exact congrArg (_ + ·) (congrArg (_ + ·) (congrArg (_ + ·) (add_left_comm _ _ _)))

theorem colour_sum (r : Fin 16) (hr : 64 + r.val < 112) (v : Fin 2 → EReal) (h0 : v 0 = t) (h1 : v 1 = u) :
    ∑ k, wtrig A11 A3 A7 A5 0 k ⟨64 + r.val, hr⟩ * stack x y t u k = ∑ k, v k * A3 (ix2 k r) := by
  simp only [row_colour, stack_eq]
  simp [Fin.sum_univ_succ, h0, h1]
  simp only [mul_comm (A3 _)]

theorem position_sum (r : Fin 16) (hr : 80 + r.val < 112) :
    ∑ k, wtrig A11 A3 A7 A5 0 k ⟨80 + r.val, hr⟩ * stack x y t u k = ∑ k, harm2 (x * tau) (y * tau) k * A7 (ix2 k r) := by
  simp only [row_position, stack_eq]
  simp [Fin.sum_univ_succ, harm2]
  simp only [mul_comm (A7 _)]

theorem time_sum (r : Fin 16) (hr : 96 + r.val < 112) :
    ∑ k, wtrig A11 A3 A7 A5 0 k ⟨96 + r.val, hr⟩ * stack x y t u k = ∑ k, harm (t * tau) k * A5 (ix2 k r) := by
  simp only [row_time, stack_eq]
  simp [Fin.sum_univ_succ, harm]
  simp only [mul_comm (A5 _)]

end Rows

end Cert.Proof.Equation
-- ==== Proof.Pixel.lean ====
/-
  One pixel: the two programs read its position, its latent row and its control numbers as the same values.
-/
module

public import proofs.«01_k».proof.Proof.Equation
public import proofs.«01_k».proof.Proof.KernelIdealRows
public import Idealize.ShloMosaic.Lib.WordArith

@[expose] public section

set_option maxRecDepth 16384

noncomputable section

namespace Cert.Proof.Pixel

open Cert.Proof.KernelIdeal Cert.Proof.Reference Cert.Proof.Net Cert.Proof.Equation
open Idealize.ShloMosaic

/-! Positions as reals. -/

theorem sitofp_small {w : BitVec 32} (h : w.toNat < 2 ^ 31) : FloatOps.sitofp (F := Ideal) .f32 w = ((w.toNat : ℝ) : EReal) := by
  have e : w.toInt = (w.toNat : ℤ) := by rw [BitVec.toInt_eq_toNat_cond, if_pos (by omega)]
  change (((w.toInt : ℤ) : ℝ) : EReal) = _
  rw [e]
  norm_cast

theorem over_size (a : ℕ) : Ideal.div ((a : ℝ) : EReal) (Ideal.ofBits .f32 0x44800000#32) = ((a / 1024 : ℝ) : EReal) := by
  rw [size_eq, Ideal.div, if_neg (by norm_cast), ← EReal.coe_inv, ← EReal.coe_mul, div_eq_mul_inv]

theorem times_unit (a : ℕ) : ((a : ℝ) : EReal) * Ideal.ofBits .f32 0x3A800000#32 = ((a / 1024 : ℝ) : EReal) := by
  rw [unit_eq, ← EReal.coe_mul]
  congr 1; ring

theorem clip_small {w : BitVec 32} (h : w.toNat < 1024) : (IntOp.minsi 1023#32 (IntOp.maxsi 0#32 w)).toNat = w.toNat := by
  have e : (IntOp.maxsi 0#32 w).toNat = w.toNat := by
    rw [WordArith.toNat_maxsi_zero, BitVec.toInt_eq_toNat_cond, if_pos (by omega)]
    omega
  rw [WordArith.toNat_minsi_of_lt _ _ (by decide) (by omega), e]
  have : (1023#32 : BitVec 32).toNat = 1023 := rfl
  omega

theorem clip_value {w : BitVec 32} (h : w.toNat < 1024) :
    Ideal.div (FloatOps.sitofp (F := Ideal) .f32 (IntOp.minsi 1023#32 (IntOp.maxsi 0#32 w))) (Ideal.ofBits .f32 0x44800000#32) = ((w.toNat / 1024 : ℝ) : EReal) := by
  rw [sitofp_small (by rw [clip_small h]; omega), clip_small h, over_size]

theorem xOf_value (p : BitVec 32) : xOf p = (((p.toNat % 1024 : ℕ) / 1024 : ℝ) : EReal) := by
  have e : (IntOp.andi p 1023#32).toNat = p.toNat % 1024 := by
    rw [IntOp.andi, BitVec.toNat_and]
    exact Nat.and_two_pow_sub_one_eq_mod _ 10
  rw [xOf, sitofp_small (by rw [e]; omega), e, times_unit]

theorem yOf_value {p : BitVec 32} (h : p.toNat < 1048576) : yOf p = (((p.toNat / 1024 : ℕ) / 1024 : ℝ) : EReal) := by
  have e : (IntOp.shrsi .vector p 10#32).toNat = p.toNat / 1024 := shr_toNat .vector h (by decide)
  rw [yOf, sitofp_small (by rw [e]; omega), e, times_unit]

section
variable (V0 : Valuation ReferenceIdeal.τ ReferenceIdeal.sig (Elt Ideal))

theorem xAt_value (n : Fin 2097152) (h : (V0 (Proc.devRef .tc ReferenceIdeal.main_arg0) (ix2 n 0) : BitVec 32).toNat < 1024) :
    xAt V0 n = (((V0 (Proc.devRef .tc ReferenceIdeal.main_arg0) (ix2 n 0) : BitVec 32).toNat / 1024 : ℝ) : EReal) := by
  unfold xAt ReferenceIdeal.Value.res_main_v19
  pointwise
  exact clip_value h

theorem yAt_value (n : Fin 2097152) (h : (V0 (Proc.devRef .tc ReferenceIdeal.main_arg0) (ix2 n 1) : BitVec 32).toNat < 1024) :
    yAt V0 n = (((V0 (Proc.devRef .tc ReferenceIdeal.main_arg0) (ix2 n 1) : BitVec 32).toNat / 1024 : ℝ) : EReal) := by
  unfold yAt ReferenceIdeal.Value.res_main_v24
  pointwise
  exact clip_value h
end

/-! The latent row. -/

/-- The lane a pixel's value `k` is in, from its number. -/
theorem lane_toNat (p : BitVec 32) (k : Fin 4) {w : BitVec 32}
    (hw : w = IntOp.addi (IntOp.muli (IntOp.andi p 31#32) 4#32) (IntOp.andi (BitVec.ofNat 32 k.val) 3#32)) :
    (Scalar.select (IntOp.cmpi .slt w 0#32) (IntOp.addi w 128#32) w).toNat = p.toNat % 32 * 4 + k.val := by
  have e1 : (IntOp.andi p 31#32).toNat = p.toNat % 32 := by
    rw [IntOp.andi, BitVec.toNat_and]
    exact Nat.and_two_pow_sub_one_eq_mod _ 5
  have e2 : (IntOp.andi (BitVec.ofNat 32 k.val) 3#32).toNat = k.val := by
    rw [IntOp.andi, BitVec.toNat_and]
    refine (Nat.and_two_pow_sub_one_eq_mod _ 2).trans ?_
    rw [BitVec.toNat_ofNat]
    omega
  have e : w.toNat = p.toNat % 32 * 4 + k.val := by
    rw [hw, IntOp.addi, BitVec.toNat_add, e2, IntOp.muli, BitVec.toNat_mul, e1]
    change (p.toNat % 32 * 4 % 2 ^ 32 + k.val) % 2 ^ 32 = _
    omega
  have hs : IntOp.cmpi .slt w 0#32 = 0#1 := by
    have hn : w.slt 0#32 = false := by
      have hz : (0#32 : BitVec 32).toInt = 0 := by decide
      rw [BitVec.slt, hz, BitVec.toInt_eq_toNat_cond, if_pos (by omega), decide_eq_false_iff_not]
      omega
    rw [IntOp.cmpi, hn]
    rfl
  rw [hs, Scalar.select, if_neg (by decide), e]

/-- How far a pixel's chunk is turned. -/
theorem turn_toNat {p : BitVec 32} (h : p.toNat < 1048576) (b : Fin 4096) :
    (IntOp.andi (IntOp.subi (IntOp.andi (BitVec.ofNat 32 b.val) 7#32) (IntOp.andi (IntOp.shrsi .host p 5#32) 7#32)) 7#32).toNat
      = (b.val % 8 + 8 - p.toNat / 32 % 8) % 8 := by
  have hand : ∀ v : BitVec 32, (IntOp.andi v 7#32).toNat = v.toNat % 8 := fun v => by
    rw [IntOp.andi, BitVec.toNat_and]
    exact Nat.and_two_pow_sub_one_eq_mod _ 3
  have hs : (IntOp.shrsi .host p 5#32).toNat = p.toNat / 32 := shr_toNat .host h (by decide)
  rw [hand, IntOp.subi, BitVec.toNat_sub, hand, hand, hs, BitVec.toNat_ofNat]
  omega

section
open Cert.KernelIdeal Cert.KernelIdeal.Gen
variable (m : (ℓ : Loc nD τ sig) → Buf (Elt Ideal) ℓ) {c : Dev nD}

theorem ix3_congr {a b d : ℕ} {i i' : Fin a} {j j' : Fin b} {k k' : Fin d} (hi : i = i') (hj : j = j') (hk : k = k') : ix3 i j k = ix3 i' j' k' := by
  rw [hi, hj, hk]

theorem latent_of (X3 : S1x4096x1.Idx → BitVec 32) (X1 X2 : S1x1x4096.Idx → BitVec 32) (X7 : S32768x128.Idx → Elt Ideal .f32)
    (T : S1024x1024x4.Idx → Elt Ideal .f32) (p : BitVec 32) (hp : p.toNat < 1048576) (b : Fin 4096) (k : Fin 4)
    (hX : X3 (ix3 0 b 0) = p) (hr : (X1 (ix3 0 0 b)).toNat = p.toNat / 256 * 8)
    (hs : (X2 (ix3 0 0 b)).toNat = (b.val % 8 + 8 - p.toNat / 32 % 8) % 8)
    (hT : ∀ (u : Fin 32768) (v : Fin 128), X7 (ix2 u v) = T (ix3 ⟨u.val / 32, by omega⟩ ⟨u.val % 32 * 32 + v.val / 4, by omega⟩ ⟨v.val % 4, by omega⟩)) :
    k0_pay9 X3 (gRow (F := Ideal) X1 X2 X7) (ix2 b k) = T (ix3 ⟨p.toNat / 1024, by omega⟩ ⟨p.toNat % 1024, by omega⟩ k) := by
  have hl := lane_toNat p k rfl
  have hg : ∀ v : Fin 128, gRow (F := Ideal) X1 X2 X7 (ix2 b v) = X7 (ix2 ⟨p.toNat / 32, by omega⟩ v) := fun v => by
    refine congrArg (fun u => X7 (ix2 u v)) (Fin.ext ?_)
    change ((X1 (ix3 0 0 b)).toNat + (b.val % 8 + 8 - (X2 (ix3 0 0 b)).toNat % 8) % 8) % 32768 = p.toNat / 32
    omega
  revert hg
  generalize gRow (F := Ideal) X1 X2 X7 = G
  intro hg
  unfold k0_pay9
  pointwise
  rw [hg, hT]
  refine congrArg T (ix3_congr (Fin.ext ?_) (Fin.ext ?_) (Fin.ext ?_))
  all_goals simp only [hX, hl]; omega

theorem latent_at (h : InRange m c) (t : Fin cfg0.N) (b : Fin 4096) (k : Fin 4) (hp : (posWord m c (pix (pt t) b)).toNat < 1048576) :
    k0_pay9 (iblk m c 2 t) (gRow (F := Ideal) (iblk m c 0 t) (iblk m c 1 t) (iblk m c 6 t)) (ix2 b k)
      = arg m c main_arg2 (ix3 ⟨(posWord m c (pix (pt t) b)).toNat / 1024, by omega⟩ ⟨(posWord m c (pix (pt t) b)).toNat % 1024, by omega⟩ k) := by
  refine latent_of _ _ _ _ (arg m c main_arg2) _ hp b k ((iblk2 m c t _).trans (V_pcol m c _)) ?_ ?_ fun u v => (iblk6 m c t _).trans (V_tab m c _)
  · rw [iblk0]
    exact crow_toNat m h _
  · rw [iblk1, V_sh]
    exact turn_toNat hp b
end

end Cert.Proof.Pixel
end
-- ==== Proof.Features.lean ====
/-
  The conditioning features and the hidden values of a pixel: the kernel's rows of one product are the reference's separate layers.
-/
module

public import proofs.«01_k».proof.Proof.Equation

@[expose] public section

set_option maxRecDepth 16384

noncomputable section

namespace Cert.Proof.Features

open Cert.Proof.KernelIdeal Cert.Proof.Reference Cert.Proof.Net Cert.Proof.Equation
open Cert.KernelIdeal
open Idealize.ShloMosaic

section Bias
variable (A12 : S64.Idx → EReal) (A4 A8 A6 : S16.Idx → EReal) (r : Fin 16)

theorem bias_hidden (r : Fin 64) (hr : r.val < 112) : biasRow A12 A4 A8 A6 ⟨r.val, hr⟩ = A12 (ix1 r) := by
  rw [biasRow, dif_pos r.isLt]

theorem bias_colour (hr : 64 + r.val < 112) : biasRow A12 A4 A8 A6 ⟨64 + r.val, hr⟩ = A4 (ix1 r) := by
  rw [biasRow, dif_neg (by simp), dif_pos (by simp)]
  exact congrArg (fun i => A4 (ix1 i)) (Fin.ext (by simp))

theorem bias_position (hr : 80 + r.val < 112) : biasRow A12 A4 A8 A6 ⟨80 + r.val, hr⟩ = A8 (ix1 r) := by
  rw [biasRow, dif_neg (by simp; omega), dif_neg (by simp; omega), dif_pos (by simp; omega)]
  exact congrArg (fun i => A8 (ix1 i)) (Fin.ext (by simp; omega))

theorem bias_time (hr : 96 + r.val < 112) : biasRow A12 A4 A8 A6 ⟨96 + r.val, hr⟩ = A6 (ix1 r) := by
  rw [biasRow, dif_neg (by simp; omega), dif_neg (by simp; omega), dif_neg (by simp; omega)]
  exact congrArg (fun i => A6 (ix1 i)) (Fin.ext (by simp; omega))
end Bias

variable {A11 : S10x64.Idx → EReal} {A3 : S2x16.Idx → EReal} {A7 : S12x16.Idx → EReal} {A5 : S6x16.Idx → EReal}
  {A12 : S64.Idx → EReal} {A4 A8 A6 : S16.Idx → EReal} {x y t u : EReal}

variable (A11 A3 A7 A5 A12 A4 A8 A6 x y t u) in
/-- One row of the product, with its bias. -/
def row (r : Fin 112) : EReal := ∑ k, wtrig A11 A3 A7 A5 0 k r * stack x y t u k + biasRow A12 A4 A8 A6 r

variable (A11 A3 A7 A5 A12 A4 A8 A6 x y t) in
/-- The features from a pixel's position and its two control numbers `v`. -/
def features (v : Fin 2 → EReal) (k : Fin 48) : EReal :=
  if h : k.val < 16 then max (dense v (fun i => A3 (ix2 i ⟨k.val, h⟩)) (A4 (ix1 ⟨k.val, h⟩))) 0
  else if h : k.val - 16 < 16 then max (dense (harm2 (x * tau) (y * tau)) (fun i => A7 (ix2 i ⟨k.val - 16, h⟩)) (A8 (ix1 ⟨k.val - 16, h⟩))) 0
  else max (dense (harm (t * tau)) (fun i => A5 (ix2 i ⟨k.val - 16 - 16, by omega⟩)) (A6 (ix1 ⟨k.val - 16 - 16, by omega⟩))) 0

/-- The kernel's rows are such rows. -/
theorem headRow_eq {X4 : S1x1x4096.Idx → Elt Ideal .i32} {X5 X6 : S1x1x1x4096.Idx → Elt Ideal .f32}
    {X8 : S112x24.Idx → Elt Ideal .f32} {X9 : S112x1.Idx → Elt Ideal .f32} {b : Fin 4096} {p : BitVec 32} (h4 : X4 (ix3 0 0 b) = p)
    (hx : xOf p = x) (hy : yOf p = y) (h5 : X5 (ix4 0 0 0 b) = t) (h6 : X6 (ix4 0 0 0 b) = u)
    (h8 : ∀ r k, X8 (ix2 r k) = wtrig A11 A3 A7 A5 0 k r) (h9 : ∀ r, X9 (ix2 r 0) = biasRow A12 A4 A8 A6 r) (r : Fin 112) :
    headRow X4 X5 X6 X8 X9 r b = row A11 A3 A7 A5 A12 A4 A8 A6 x y t u r := by
  rw [headRow, row, h4, hx, hy, h5, h6, h9]
  simp only [h8]

theorem features_eq {x y t : ℝ} (v : Fin 2 → EReal) (h0 : v 0 = t) (k : Fin 48) :
    max (row A11 A3 A7 A5 A12 A4 A8 A6 x y t (v 1) ⟨64 + k.val, by omega⟩) 0 = features A3 A7 A5 A4 A8 A6 x y t v k := by
  unfold row features dense
  split
  · rename_i hk
    rw [colour_sum A11 A3 A7 A5 x y t (v 1) ⟨k.val, hk⟩ (by simp; omega) v h0 rfl, bias_colour A12 A4 A8 A6 ⟨k.val, hk⟩]
  split
  · rename_i hk hk'
    have hr : (⟨64 + k.val, by omega⟩ : Fin 112) = ⟨80 + (k.val - 16), by omega⟩ := Fin.ext (by simp; omega)
    rw [hr, position_sum A11 A3 A7 A5 x y t (v 1) ⟨k.val - 16, hk'⟩ (by simp; omega), bias_position A12 A4 A8 A6 ⟨k.val - 16, hk'⟩]
  · rename_i hk hk'
    have hr : (⟨64 + k.val, by omega⟩ : Fin 112) = ⟨96 + (k.val - 16 - 16), by omega⟩ := Fin.ext (by simp; omega)
    rw [hr, time_sum A11 A3 A7 A5 x y t (v 1) ⟨k.val - 16 - 16, by omega⟩ (by simp; omega), bias_time A12 A4 A8 A6 ⟨k.val - 16 - 16, by omega⟩]

theorem hidden_eq {x y t : ℝ} (g : Fin 4 → EReal) (r : Fin 64) :
    row A11 A3 A7 A5 A12 A4 A8 A6 x y t u ⟨r.val, by omega⟩ + ∑ k : Fin 4, A11 (ix2 ⟨k.val, by omega⟩ r) * g k
      = dense g (fun k => A11 (ix2 ⟨k.val, by omega⟩ r)) (dense (pos x y) (fun k => A11 (ix2 ⟨4 + k.val, by omega⟩ r)) (A12 (ix1 r))) := by
  unfold row dense
  rw [hidden_sum A11 A3 A7 A5 x y t u r, bias_hidden A12 A4 A8 A6 r, add_comm]
  simp only [mul_comm (g _)]

end Cert.Proof.Features
end
-- ==== Proof.KernelIdealOut.lean ====
/-
  The kernel's result after the run: element `(n, q)` is element `(q, n mod 4096)` of the block that grid point `n / 4096` leaves.
-/
module

public import proofs.«01_k».proof.Proof.KernelIdealBlocks
public import Idealize.ShloMosaic.Lib.StableHlo.ReadAt

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

theorem index18 : ∀ t : Fin grid0.N, win0_18.index t = ![0, t.val] := by decide +kernel

/-- The grid point that computes a pixel. -/
abbrev gridPt (n : Fin 2097152) : Fin cfg0.N := ⟨n.val / 4096, lt_of_lt_of_eq (by omega : n.val / 4096 < 512) N_0.symm⟩
/-- Its place in that point's block. -/
abbrev lanePt (n : Fin 2097152) : Fin 4096 := ⟨n.val % 4096, by omega⟩

theorem out_arr (c : Dev nD) : (dats m 0 c).arrAt 18 (cfgs 0).N = fun i : S4x2097152.Idx => oblk m c (gridPt (i 1)) (ix2 (i 0) (lanePt (i 1))) := by
  refine (dats m 0 c).arrAt_eq_of_covers 18 _ (by decide +kernel) fun t hf y => ?_
  blk_simp
  rw [after18]
  have e0 : ((win0_18.blk t).view.emb y 0).val = (y 0).val := by blk_simp [index18]
  have e1 : ((win0_18.blk t).view.emb y 1).val = t.val * 4096 + (y 1).val := by blk_simp [index18]
  have h1 : (y 1).val < 4096 := (y 1).isLt
  have ht : gridPt ((win0_18.blk t).view.emb y 1) = t := Fin.ext (by show _ / 4096 = _; rw [e1]; omega)
  rw [ht]
  refine congrArg _ (funext fun a => Fin.ext ?_)
  match a with
  | ⟨0, _⟩ => exact e0.symm
  | ⟨1, _⟩ => show (y 1).val = _ % 4096; rw [e1]; omega

theorem result_at (c : Dev nD) (n : Fin 2097152) (q : Fin 4) :
    Pipeline.afterTail₀ cfgs (dats m) 0 (V0 m) [hostOps1] c main_v0 (ix2 n q) = oblk m c (gridPt n) (ix2 q (lanePt n)) := by
  unfold Pipeline.afterTail₀
  have e := ((dats m 0 c).withArrays_arrAt sharedIn0 (V0 m c) (fun w => A_eq m c w) 18).trans (out_arr m c)
  revert e
  generalize Pipeline.withArrays _ c _ _ = V'
  intro e
  have e' : V' (Proc.devRef .tc main_call0_v102) = _ := e
  simp only [List.flatten_cons, List.flatten_nil, List.append_nil]
  after_reads_at
  rw [e']
  rfl

/-- The run, with the result read at an index. -/
theorem run_value (hrow : ∀ c t x, RowOK (iblk m c 0 t x)) :
    θ_run defs (onTc (τ := τ) (main (F := F))) ⟨m, fun _ => 0, ρ⟩ (fun r =>
      (∀ c : Dev nD, r.2.mem ((c.tc : Thread nD τ).loc main_v0) = fun i : S2097152x4.Idx => oblk m c (gridPt (i 0)) (ix2 (i 1) (lanePt (i 0))))
        ∧ (∀ b ∈ args, ∀ c : Dev nD, r.2.mem ((c.tc : Thread nD τ).loc b) = m ((c.tc : Thread nD τ).loc b))) :=
  (θ_run defs _ _).mono (fun r h => ⟨fun c => ((h.1 c).2 main_v0 (Pipeline.mem_restRefs_of main_v0 (by decide) (by decide))).trans
      (funext fun i => by
        obtain ⟨n, q, rfl⟩ : ∃ n q, i = ix2 n q := ⟨i 0, i 1, by funext a; match a with | ⟨0, _⟩ => rfl | ⟨1, _⟩ => rfl⟩
        exact result_at m c n q),
    fun b hb c => ((h.1 c).2 b (Pipeline.mem_restRefs_of b ((by decide : ∀ b ∈ args, b.isScoped = false) b hb)
      ((by decide : ∀ b ∈ args, ∀ w, Pipeline.arrRef spec0 w ≠ b) b hb))).trans (tail_arg m hb (dats m) c)⟩) (run m ρ hrow)

end Cert.Proof.KernelIdeal
end
-- ==== Proof.Agree.lean ====
/-
  The kernel's block and the reference's result agree at every pixel, when both start from the same arguments.
-/
module

public import proofs.«01_k».proof.Proof.Pixel
public import proofs.«01_k».proof.Proof.Features
public import proofs.«01_k».proof.Proof.KernelIdealOut

@[expose] public section

set_option maxRecDepth 16384

noncomputable section

namespace Cert.Proof.Agree

open Cert.Proof.KernelIdeal Cert.Proof.Reference Cert.Proof.Net Cert.Proof.Equation Cert.Proof.Pixel Cert.Proof.Features
open Cert.KernelIdeal Cert.KernelIdeal.Gen
open Idealize.ShloMosaic Idealize.ShloMosaic.TcCoe

variable (m : (ℓ : Loc nD τ sig) → Buf (Elt Ideal) ℓ) (c : Dev nD)
variable (V' : Valuation ReferenceIdeal.τ ReferenceIdeal.sig (Elt Ideal))

/-- The reference's arguments are the kernel's. -/
structure Same : Prop where
  a0 : V' (Proc.devRef .tc ReferenceIdeal.main_arg0) = arg m c main_arg0
  a1 : V' (Proc.devRef .tc ReferenceIdeal.main_arg1) = arg m c main_arg1
  a2 : V' (Proc.devRef .tc ReferenceIdeal.main_arg2) = arg m c main_arg2
  a3 : V' (Proc.devRef .tc ReferenceIdeal.main_arg3) = arg m c main_arg3
  a4 : V' (Proc.devRef .tc ReferenceIdeal.main_arg4) = arg m c main_arg4
  a5 : V' (Proc.devRef .tc ReferenceIdeal.main_arg5) = arg m c main_arg5
  a6 : V' (Proc.devRef .tc ReferenceIdeal.main_arg6) = arg m c main_arg6
  a7 : V' (Proc.devRef .tc ReferenceIdeal.main_arg7) = arg m c main_arg7
  a8 : V' (Proc.devRef .tc ReferenceIdeal.main_arg8) = arg m c main_arg8
  a9 : V' (Proc.devRef .tc ReferenceIdeal.main_arg9) = arg m c main_arg9
  a10 : V' (Proc.devRef .tc ReferenceIdeal.main_arg10) = arg m c main_arg10
  a11 : V' (Proc.devRef .tc ReferenceIdeal.main_arg11) = arg m c main_arg11
  a12 : V' (Proc.devRef .tc ReferenceIdeal.main_arg12) = arg m c main_arg12
  a13 : V' (Proc.devRef .tc ReferenceIdeal.main_arg13) = arg m c main_arg13
  a14 : V' (Proc.devRef .tc ReferenceIdeal.main_arg14) = arg m c main_arg14
  a15 : V' (Proc.devRef .tc ReferenceIdeal.main_arg15) = arg m c main_arg15
  a16 : V' (Proc.devRef .tc ReferenceIdeal.main_arg16) = arg m c main_arg16

variable {m c V'}

theorem word_eq (s : Same m c V') (n : Fin 2097152) : pixelWord V' n = posWord m c n := by
  unfold pixelWord posWord
  rw [s.a0]
  exact BitVec.add_comm _ _

theorem pix_eq (n : Fin 2097152) : pix (pt (gridPt n)) (lanePt n) = n := Fin.ext (by
  change n.val / 4096 * 4096 + n.val % 4096 = n.val
  omega)

section
variable (s : Same m c V') (h : InRange m c) (n : Fin 2097152)
include s h

theorem col_eq : xOf (posWord m c n) = xAt V' n := by
  have h0 := h n 0
  rw [xOf_value, xAt_value V' n (by rw [s.a0]; exact h0), s.a0, posWord_toNat m h,
    show ((arg m c main_arg0 (ix2 n 1) : BitVec 32).toNat * 1024 + (arg m c main_arg0 (ix2 n 0) : BitVec 32).toNat) % 1024 = (arg m c main_arg0 (ix2 n 0) : BitVec 32).toNat by omega]

theorem row_eq : yOf (posWord m c n) = yAt V' n := by
  have h0 := h n 0
  rw [yOf_value (posWord_lt m h n), yAt_value V' n (by rw [s.a0]; exact h n 1), s.a0, posWord_toNat m h,
    show ((arg m c main_arg0 (ix2 n 1) : BitVec 32).toNat * 1024 + (arg m c main_arg0 (ix2 n 0) : BitVec 32).toNat) / 1024 = (arg m c main_arg0 (ix2 n 1) : BitVec 32).toNat by omega]

theorem feat_eq : feat V' n = features (arg m c main_arg3) (arg m c main_arg7) (arg m c main_arg5) (arg m c main_arg4) (arg m c main_arg8) (arg m c main_arg6)
    (xAt V' n) (yAt V' n) (arg m c main_arg1 (ix2 n 0)) (fun i => arg m c main_arg1 (ix2 n i)) := by
  funext k
  unfold feat timeAt features
  rw [s.a1, s.a3, s.a4, s.a5, s.a6, s.a7, s.a8]

theorem head_eq {x y t : ℝ} (hx : xAt V' n = x) (hy : yAt V' n = y) (ht : arg m c main_arg1 (ix2 n 0) = (t : EReal)) (r : Fin 112) :
    headRow (iblk m c 3 (gridPt n)) (iblk m c 4 (gridPt n)) (iblk m c 5 (gridPt n)) (iblk m c 7 (gridPt n)) (iblk m c 8 (gridPt n)) r (lanePt n)
      = row (arg m c main_arg11) (arg m c main_arg3) (arg m c main_arg7) (arg m c main_arg5) (arg m c main_arg12) (arg m c main_arg4) (arg m c main_arg8) (arg m c main_arg6)
          x y t (arg m c main_arg1 (ix2 n 1)) r := by
  refine headRow_eq (p := posWord m c n) ?_ ((col_eq s h n).trans hx) ((row_eq s h n).trans hy) ?_ ?_ ?_ ?_ r
  · exact ((iblk3 m c _ _).trans (V_prow m c _)).trans (congrArg (posWord m c) (pix_eq n))
  · exact ((iblk4 m c _ _).trans (V_ct m c _)).trans ((congrArg (fun i => arg m c main_arg1 (ix2 i 0)) (pix_eq n)).trans ht)
  · exact ((iblk5 m c _ _).trans (V_ct m c _)).trans (congrArg (fun i => arg m c main_arg1 (ix2 i 1)) (pix_eq n))
  · intro r k
    refine ((iblk7 m c _ _).trans (V_wtrig m c r k)).trans ?_
    exact congrArg (fun z => wtrig (arg m c main_arg11) (arg m c main_arg3) (arg m c main_arg7) (arg m c main_arg5) z k r) Ideal.ofBits_zero_f32
  · exact fun r => (iblk8 m c _ _).trans (V_ba m c _)

theorem hidden_at (hn : (pixelWord V' n).toNat < 1048576) {x y t : ℝ} (hx : xAt V' n = x) (hy : yAt V' n = y) (ht : arg m c main_arg1 (ix2 n 0) = (t : EReal)) (r : Fin 64) :
    hiddenRow (iblk m c 3 (gridPt n)) (iblk m c 4 (gridPt n)) (iblk m c 5 (gridPt n)) (iblk m c 7 (gridPt n)) (iblk m c 8 (gridPt n)) (iblk m c 9 (gridPt n))
        (fun k => k0_pay9 (iblk m c 2 (gridPt n)) (gRow (F := Ideal) (iblk m c 0 (gridPt n)) (iblk m c 1 (gridPt n)) (iblk m c 6 (gridPt n))) (ix2 (lanePt n) k)) (lanePt n) r
      = Reference.hidden V' n hn r := by
  have hg : ∀ k, k0_pay9 (iblk m c 2 (gridPt n)) (gRow (F := Ideal) (iblk m c 0 (gridPt n)) (iblk m c 1 (gridPt n)) (iblk m c 6 (gridPt n))) (ix2 (lanePt n) k)
      = V' (Proc.devRef .tc ReferenceIdeal.main_arg2) (ix3 ⟨(pixelWord V' n).toNat / 1024, by omega⟩ ⟨(pixelWord V' n).toNat % 1024, by omega⟩ k) := fun k => by
    have e : posWord m c (pix (pt (gridPt n)) (lanePt n)) = pixelWord V' n := (congrArg (posWord m c) (pix_eq n)).trans (word_eq s n).symm
    rw [latent_at m h (gridPt n) (lanePt n) k (by rw [e]; exact hn), s.a2]
    exact congrArg (arg m c main_arg2) (ix3_congr (Fin.ext (congrArg (fun p : BitVec 32 => p.toNat / 1024) e)) (Fin.ext (congrArg (fun p : BitVec 32 => p.toNat % 1024) e)) rfl)
  have hw : ∀ k : Fin 4, iblk m c 9 (gridPt n) (ix2 r k) = arg m c main_arg11 (ix2 ⟨k.val, by omega⟩ r) := fun k => (iblk9 m c _ _).trans (V_w0lat m c _)
  unfold hiddenRow Reference.hidden
  rw [head_eq s h n hx hy ht, hx, hy, s.a11, s.a12]
  simp only [hg, hw]
  exact hidden_eq _ r

set_option maxHeartbeats 400000 in
theorem out_eq (hfin : ∃ t : ℝ, arg m c main_arg1 (ix2 n 0) = (t : EReal)) (hn : (pixelWord V' n).toNat < 1048576) (q : Fin 4) :
    oblk m c (gridPt n) (ix2 q (lanePt n))
      = net (feat V' n) (hidden V' n hn) (fun k c => V' (Proc.devRef .tc ReferenceIdeal.main_arg9) (ix2 k c)) (fun c => V' (Proc.devRef .tc ReferenceIdeal.main_arg10) (ix1 c))
          (fun i k => V' (Proc.devRef .tc ReferenceIdeal.main_arg13) (ix2 i k)) (fun k => V' (Proc.devRef .tc ReferenceIdeal.main_arg14) (ix1 k))
          (fun k q => V' (Proc.devRef .tc ReferenceIdeal.main_arg15) (ix2 k q)) (fun q => V' (Proc.devRef .tc ReferenceIdeal.main_arg16) (ix1 q)) q := by
  obtain ⟨x, hx⟩ : ∃ x : ℝ, xAt V' n = x := ⟨_, xAt_value V' n (by rw [s.a0]; exact h n 0)⟩
  obtain ⟨y, hy⟩ : ∃ y : ℝ, yAt V' n = y := ⟨_, yAt_value V' n (by rw [s.a0]; exact h n 1)⟩
  obtain ⟨t, ht⟩ := hfin
  have hf : featRow (iblk m c 3 (gridPt n)) (iblk m c 4 (gridPt n)) (iblk m c 5 (gridPt n)) (iblk m c 7 (gridPt n)) (iblk m c 8 (gridPt n)) (lanePt n) = feat V' n := by
    rw [feat_eq s h n, hx, hy, ht]
    funext k
    unfold featRow
    rw [head_eq s h n hx hy ht]
    exact features_eq (A11 := arg m c main_arg11) (A3 := arg m c main_arg3) (A7 := arg m c main_arg7) (A5 := arg m c main_arg5) (A12 := arg m c main_arg12)
      (A4 := arg m c main_arg4) (A8 := arg m c main_arg8) (A6 := arg m c main_arg6) (x := x) (y := y) (t := t) (fun i => arg m c main_arg1 (ix2 n i)) ht k
  have hh := funext fun r => hidden_at s h n hn hx hy ht r
  have e10 : ∀ j k, iblk m c 10 (gridPt n) (ix2 j k) = arg m c main_arg9 (ix2 k ⟨j.val, by omega⟩) := fun j k => (iblk10 m c _ _).trans (V_wf1 m c _)
  have e11 : ∀ j k, iblk m c 11 (gridPt n) (ix2 j k) = arg m c main_arg9 (ix2 k ⟨64 + j.val, by omega⟩) := fun j k => (iblk11 m c _ _).trans (V_wf2 m c _)
  have e12 : ∀ j, iblk m c 12 (gridPt n) (ix2 j 0) = arg m c main_arg10 (ix1 ⟨j.val, by omega⟩) := fun j => (iblk12 m c _ _).trans (V_bgam m c _)
  have e13 : ∀ j, iblk m c 13 (gridPt n) (ix2 j 0) = arg m c main_arg10 (ix1 ⟨64 + j.val, by omega⟩) := fun j => (iblk13 m c _ _).trans (V_bbet m c _)
  refine (blockOut_at (iblk m c 3 (gridPt n)) (iblk m c 4 (gridPt n)) (iblk m c 5 (gridPt n)) (iblk m c 7 (gridPt n)) (iblk m c 8 (gridPt n))
    (iblk m c 0 (gridPt n)) (iblk m c 1 (gridPt n)) (iblk m c 2 (gridPt n)) (iblk m c 6 (gridPt n)) (iblk m c 9 (gridPt n)) (iblk m c 10 (gridPt n))
    (iblk m c 11 (gridPt n)) (iblk m c 12 (gridPt n)) (iblk m c 13 (gridPt n)) (iblk m c 14 (gridPt n)) (iblk m c 15 (gridPt n))
    (iblk m c 16 (gridPt n)) (iblk m c 17 (gridPt n)) (fun k c' => arg m c main_arg9 (ix2 k c')) (fun c' => arg m c main_arg10 (ix1 c'))
    e10 e11 e12 e13 q (lanePt n)).trans ?_
  rw [hf, hh, s.a9, s.a10, s.a13, s.a14, s.a15, s.a16]
  have e14 : ∀ i k, iblk m c 14 (gridPt n) (ix2 k i) = arg m c main_arg13 (ix2 i k) := fun i k => (iblk14 m c _ _).trans (V_w1 m c _)
  have e15 : ∀ k, iblk m c 15 (gridPt n) (ix2 k 0) = arg m c main_arg14 (ix1 k) := fun k => (iblk15 m c _ _).trans (V_b1 m c _)
  have e16 : ∀ k q, iblk m c 16 (gridPt n) (ix2 q k) = arg m c main_arg15 (ix2 k q) := fun k q => (iblk16 m c _ _).trans (V_w2 m c _)
  have e17 : ∀ q, iblk m c 17 (gridPt n) (ix2 q 0) = arg m c main_arg16 (ix1 q) := fun q => (iblk17 m c _ _).trans (V_b2 m c _)
  simp only [e14, e15, e16, e17]

end

end Cert.Proof.Agree
end
-- ==== Proof.lean ====
/-
  The claims, put together: each run from the module that has it, under the ranges the precondition gives.
-/
module

public import proofs.«01_k».proof.Defs
public import proofs.«01_k».proof.Proof.KernelRows
public import proofs.«01_k».proof.Proof.KernelIdealRows
public import proofs.«01_k».proof.Proof.Range
public import proofs.«01_k».proof.Proof.Agree
public import proofs.«01_k».proof.Proof.Gen.ReferenceIdeal
public import proofs.«01_k».proof.Proof.Gen.ReferenceIdeal.Run
public import Idealize.ShloMosaic.Lib.Claim

@[expose] public section

noncomputable section

namespace Cert.Proof

open Idealize.ShloMosaic Idealize.ShloMosaic.TcCoe

theorem frameKernel : quiescent_Kernel (hKernel := Cert.Kernel.Gen.facts) (hPre_in_range := Cert.Pre_in_range.Gen.facts) := by
  intro m g hpre
  refine θ_run_mono (Kernel.frame m g fun c t x => Kernel.rows_ok m (fun n k => Range.ints (hpre c) (ix2 n k)) t x) ?_
  intro r hr
  refine ⟨fun c => ?_, hr.2⟩
  and_intros <;> exact hr.1 _ (by decide) c

theorem frameKernelIdeal : quiescent_KernelIdeal (hKernelIdeal := Cert.KernelIdeal.Gen.facts) (hPre_in_range := Cert.Pre_in_range.Gen.facts) := by
  intro m g hpre
  refine θ_run_mono (KernelIdeal.frame m g fun c t x => KernelIdeal.rows_ok m (fun n k => Range.ints (hpre c) (ix2 n k)) t x) ?_
  intro r hr
  refine ⟨fun c => ?_, hr.2⟩
  and_intros <;> exact hr.1 _ (by decide) c

theorem frameKernelIdeal_finite_time :
    quiescent_KernelIdeal_pre_finite_time (hKernelIdeal := Cert.KernelIdeal.Gen.facts) (hPre_finite_time := Range.facts) := by
  intro m g hpre
  have := Range.facts
  refine θ_run_mono (KernelIdeal.frame m g fun c t x => KernelIdeal.rows_ok m (fun n k => Range.time_ints (hpre c) (ix2 n k)) t x) ?_
  intro r hr
  refine ⟨fun c => ?_, hr.2⟩
  and_intros <;> exact hr.1 _ (by decide) c

theorem frameReference : quiescent_ReferenceIdeal (hReferenceIdeal := Cert.ReferenceIdeal.Gen.facts) := by
  intro m g _
  exact θ_run_mono (Cert.ReferenceIdeal.Value.run (F := Ideal) m g)
    (fun r h => ⟨fun c => (h c).2, sem_eq_zero_of_no_sems (by decide) r.2⟩)

theorem frameReference_finite_time :
    quiescent_ReferenceIdeal_pre_finite_time (hReferenceIdeal := Cert.ReferenceIdeal.Gen.facts) (hPre_finite_time := Range.facts) := by
  intro m g _
  exact θ_run_mono (Cert.ReferenceIdeal.Value.run (F := Ideal) m g)
    (fun r h => ⟨fun c => (h c).2, sem_eq_zero_of_no_sems (by decide) r.2⟩)

theorem values : algebraic_KernelIdeal_ReferenceIdeal_pre_finite_time (hKernelIdeal := Cert.KernelIdeal.Gen.facts)
    (hReferenceIdeal := Cert.ReferenceIdeal.Gen.facts) (hPre_finite_time := Range.facts) := by
  intro m g m' g' hpre hagree
  have := Range.facts
  have hin : ∀ c, KernelIdeal.InRange m c := fun c n k => Range.time_ints (hpre c) (ix2 n k)
  refine ⟨fun c => fun i : Cert.KernelIdeal.S2097152x4.Idx => KernelIdeal.oblk m c (KernelIdeal.gridPt (i 0)) (ix2 (i 1) (KernelIdeal.lanePt (i 0))), ?_, ?_⟩
  · refine θ_run_mono (KernelIdeal.run_value m g fun c t x => KernelIdeal.rows_ok m (hin c) t x) ?_
    intro r hr c
    refine ⟨hr.1 c, ?_⟩
    and_intros <;> exact hr.2 _ (by decide) c
  · refine θ_run_mono (Cert.ReferenceIdeal.Value.run (F := Ideal) m' g') ?_
    intro r hr c
    refine ⟨(hr c).1.trans ?_, (hr c).2⟩
    have hs : Agree.Same m c (StableHlo.launchContents m' c) := by
      obtain ⟨a0, a1, a2, a3, a4, a5, a6, a7, a8, a9, a10, a11, a12, a13, a14, a15, a16⟩ := hagree c
      exact ⟨a0, a1, a2, a3, a4, a5, a6, a7, a8, a9, a10, a11, a12, a13, a14, a15, a16⟩
    funext i
    obtain ⟨n, q, rfl⟩ : ∃ n q, i = ix2 n q := ⟨i 0, i 1, by funext a; match a with | ⟨0, _⟩ => rfl | ⟨1, _⟩ => rfl⟩
    have hn : (Reference.pixelWord (StableHlo.launchContents m' c) n).toNat < 1048576 := by
      rw [Agree.word_eq hs n]
      exact KernelIdeal.posWord_lt m (hin c) n
    exact (Reference.v147_at (StableHlo.launchContents m' c) n hn q).trans (Agree.out_eq hs (hin c) n (Range.time_real (hpre c) n) hn q).symm

theorem claim : Claim :=
  ⟨Cert.Kernel.Gen.facts, Cert.KernelIdeal.Gen.facts, Cert.ReferenceIdeal.Gen.facts, Cert.Pre_in_range.Gen.facts, Range.facts,
    frameKernel, frameKernelIdeal, frameKernelIdeal_finite_time, frameReference, frameReference_finite_time, trivial, values⟩

end Cert.Proof
end
